-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![2048, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x512 : Shape := ⟨2, ![2048, 512]⟩
abbrev S512x2048 : Shape := ⟨2, ![512, 2048]⟩
abbrev S4x512x512 : Shape := ⟨3, ![4, 512, 512]⟩
abbrev S3x512x512 : Shape := ⟨3, ![3, 512, 512]⟩
abbrev S8 : Shape := ⟨1, ![8]⟩
abbrev S4 : Shape := ⟨1, ![4]⟩
abbrev S3 : Shape := ⟨1, ![3]⟩
abbrev S1 : Shape := ⟨1, ![1]⟩
abbrev S_ : Shape := ⟨0, ![]⟩
abbrev S512x512 : Shape := ⟨2, ![512, 512]⟩
abbrev S1x512x512 : Shape := ⟨3, ![1, 512, 512]⟩
abbrev S512x1024 : Shape := ⟨2, ![512, 1024]⟩

abbrev nBuf : Space → Nat
  | .hbm => 3
  | .vmem => 12
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S512x2048, .bf16⟩
  | .local _ .vmem, ⟨0, _⟩ => ⟨S2048x512, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S4x512x512, .bf16⟩
  | .local _ .vmem, ⟨5, _⟩ => ⟨S4x512x512, .bf16⟩
  | .local _ .vmem, ⟨6, _⟩ => ⟨S4x512x512, .bf16⟩
  | .local _ .vmem, ⟨7, _⟩ => ⟨S4x512x512, .bf16⟩
  | .local _ .vmem, ⟨8, _⟩ => ⟨S3x512x512, .bf16⟩
  | .local _ .vmem, ⟨9, _⟩ => ⟨S3x512x512, .bf16⟩
  | .local _ .vmem, ⟨10, _⟩ => ⟨S3x512x512, .bf16⟩
  | .local _ .vmem, ⟨11, _⟩ => ⟨S3x512x512, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev barrier0 : Sem sig := 0

abbrev nD : Nat := 4
abbrev τ : Topo := Topo.v7x

variable {F : FTy → Type} [FloatOps F]

abbrev grid0 : Pipeline.Grid := .none

def k0_off1 (d0 : Dev nD) (c_m1_i32 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v8 : BitVec 32 := Scalar.addi v2 c_m1_i32
  let c4_i32_5 : BitVec 32 := 4#32
  let v9 : BitVec 32 := Scalar.addi v8 c4_i32_5
  let c4_i32_6 : BitVec 32 := 4#32
  let v10 : BitVec 32 := Scalar.remsi v9 c4_i32_6
  let c512_i32 : BitVec 32 := 512#32
  let v11 : BitVec 32 := Scalar.muli v10 c512_i32
  let c0_i32_18 : BitVec 32 := 0#32
  ![v11.toNat, 0]
def k0_off1_at (r : Fin 4) : BitVec 32 :=
  if r.val < 2 then
    if r.val < 1 then
      4294967295#32
    else
      1#32
  else
    if r.val < 3 then
      2#32
    else
      0#32
def k0_dev1 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_44 : BitVec 32 := 1#32
  let v57 : BitVec 32 := Scalar.muli v5 c1_i32_44
  let v58 : BitVec 32 := Scalar.addi c0_i32_45 v57
  v58.toNat
def k0_dev2 (d0 : Dev nD) : Nat :=
  let c0_i32_48 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_47 : BitVec 32 := 1#32
  let v59 : BitVec 32 := Scalar.muli v7 c1_i32_47
  let v60 : BitVec 32 := Scalar.addi c0_i32_48 v59
  v60.toNat
def k0_off2 (d0 : Dev nD) (c_m1_i32_61 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v74 : BitVec 32 := Scalar.addi v2 c_m1_i32_61
  let c4_i32_62 : BitVec 32 := 4#32
  let v75 : BitVec 32 := Scalar.addi v74 c4_i32_62
  let c4_i32_63 : BitVec 32 := 4#32
  let v76 : BitVec 32 := Scalar.remsi v75 c4_i32_63
  let c512_i32_64 : BitVec 32 := 512#32
  let v77 : BitVec 32 := Scalar.muli v76 c512_i32_64
  let v78 : Index := Scalar.indexCast v77
  let c0_65 : Index := 0#32
  ![v78.toNat, 0]
def k0_off2_at (r : Fin 4) : BitVec 32 :=
  if r.val < 2 then
    if r.val < 1 then
      4294967295#32
    else
      1#32
  else
    if r.val < 3 then
      2#32
    else
      0#32
def k0_dev3 (d0 : Dev nD) : Nat :=
  let c0_i32_76 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_75 : BitVec 32 := 1#32
  let v87 : BitVec 32 := Scalar.muli v7 c1_i32_75
  let v88 : BitVec 32 := Scalar.addi c0_i32_76 v87
  v88.toNat
def k0_dev4 (d0 : Dev nD) : Nat :=
  let c0_i32_108 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_107 : BitVec 32 := 1#32
  let v123 : BitVec 32 := Scalar.muli v5 c1_i32_107
  let v124 : BitVec 32 := Scalar.addi c0_i32_108 v123
  v124.toNat
def k0_dev5 (d0 : Dev nD) : Nat :=
  let c0_i32_137 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_136 : BitVec 32 := 1#32
  let v155 : BitVec 32 := Scalar.muli v7 c1_i32_136
  let v156 : BitVec 32 := Scalar.addi c0_i32_137 v155
  v156.toNat
def k0_dev6 (d0 : Dev nD) : Nat :=
  let c0_i32_166 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_165 : BitVec 32 := 1#32
  let v187 : BitVec 32 := Scalar.muli v5 c1_i32_165
  let v188 : BitVec 32 := Scalar.addi c0_i32_166 v187
  v188.toNat
def k0_dev7 (d0 : Dev nD) : Nat :=
  let c0_i32_275 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_274 : BitVec 32 := 1#32
  let v323 : BitVec 32 := Scalar.muli v7 c1_i32_274
  let v324 : BitVec 32 := Scalar.addi c0_i32_275 v323
  v324.toNat
def k0_dev8 (d0 : Dev nD) : Nat :=
  let c0_i32_313 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_312 : BitVec 32 := 1#32
  let v355 : BitVec 32 := Scalar.muli v5 c1_i32_312
  let v356 : BitVec 32 := Scalar.addi c0_i32_313 v355
  v356.toNat
def k0_dev9 (d0 : Dev nD) : Nat :=
  let c0_i32_351 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_350 : BitVec 32 := 1#32
  let v387 : BitVec 32 := Scalar.muli v7 c1_i32_350
  let v388 : BitVec 32 := Scalar.addi c0_i32_351 v387
  v388.toNat
def k0_dev10 (d0 : Dev nD) : Nat :=
  let c0_i32_389 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_388 : BitVec 32 := 1#32
  let v419 : BitVec 32 := Scalar.muli v5 c1_i32_388
  let v420 : BitVec 32 := Scalar.addi c0_i32_389 v419
  v420.toNat
def k0_dev11 (d0 : Dev nD) : Nat :=
  let c0_i32_427 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_426 : BitVec 32 := 1#32
  let v451 : BitVec 32 := Scalar.muli v7 c1_i32_426
  let v452 : BitVec 32 := Scalar.addi c0_i32_427 v451
  v452.toNat
def k0_dev12 (d0 : Dev nD) : Nat :=
  let c0_i32_465 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_464 : BitVec 32 := 1#32
  let v483 : BitVec 32 := Scalar.muli v5 c1_i32_464
  let v484 : BitVec 32 := Scalar.addi c0_i32_465 v483
  v484.toNat
def k0_dev13 (d0 : Dev nD) : Nat :=
  let c0_i32_503 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_502 : BitVec 32 := 1#32
  let v515 : BitVec 32 := Scalar.muli v7 c1_i32_502
  let v516 : BitVec 32 := Scalar.addi c0_i32_503 v515
  v516.toNat
def k0_dev14 (d0 : Dev nD) : Nat :=
  let c0_i32_541 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let v4 : BitVec 32 := Scalar.addi v3 c4_i32_1
  let c4_i32_2 : BitVec 32 := 4#32
  let v5 : BitVec 32 := Scalar.remsi v4 c4_i32_2
  let c1_i32_540 : BitVec 32 := 1#32
  let v547 : BitVec 32 := Scalar.muli v5 c1_i32_540
  let v548 : BitVec 32 := Scalar.addi c0_i32_541 v547
  v548.toNat
-- ==== ReferenceIdeal.lean ====
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Common.lean ====
/-
# The four rings: memory, contents, protocol

Each device multiplies its column block of `x` by its row block of `w` and the four devices add their
partial products around four rings, two in each direction, one lane of 512 columns per ring.

* Ring `r : Fin 4`, in the order in which the kernel sends: `0` and `2` go to the next device, `1` and `3`
  to the previous one. Lanes 0, 1, 2, 3 (columns 0, 512, 1024, 1536) belong to rings 0, 2, 1, 3.
* Each ring makes three hops. Hop `s` copies slot `s` of the sender's accumulator of ring `r` into slot `s` of
  the receiver's landing buffer of ring `r`, and completes on the sender's send semaphore `(r, s)` and the
  receiver's receive semaphore `(r, s)`.
* Before the first hop the neighbours exchange one unit each on the barrier semaphore; with it a device hands
  the landing slots that the neighbour will write.

This module fixes the memory pieces (`xR`, lanes, slots), what each piece holds at the moment it is handed over
(`prodAt`, `accAt`, `outLane`), the schedule of the cells (`ringRd`), what each device owes at launch and
the levels which order the waits (`rem`, `lv`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Transfers
public import Idealize.ShloMosaic.Lib.Memref
public import Idealize.ShloMosaic.Lib.Tactic

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra

One copy of the rounds algebra for the pipeline library, one for the rings (two duties per barrier cell, named by
`Bool`), and the counters of the transfers a device makes within its own memory. -/

abbrev UB : Type := URounds (GSem nD τ sig) Bool
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
instance ER_landsIn : (ER (F := F)).LandsIn (upEmb : UEmb _ 𝕄) := by unfold ER; infer_instance
abbrev EC : UEmb Counters (MT nD τ sig Unit (Elt F) ℕ UU ℕ) := countersEmb

variable (m : (ℓ : Loc nD τ sig) → Buf (Elt F) ℓ) (ρ : Dev nD → PrngReg)

/-! ## The ring of devices -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

def around : Dev nD ≃ Dev nD := ⟨nxt, prv, prv_nxt, nxt_prv⟩

/-- The device ring `r` sends to, -/
def peer (r : Fin 4) (c : Dev nD) : Dev nD := if r.val % 2 = 0 then nxt c else prv c
/-- and the one it receives from. -/
def frm (r : Fin 4) (c : Dev nD) : Dev nD := if r.val % 2 = 0 then prv c else nxt c

theorem frm_peer (r : Fin 4) (c : Dev nD) : frm r (peer r c) = c := by revert r c; decide
theorem peer_frm (r : Fin 4) (c : Dev nD) : peer r (frm r c) = c := by revert r c; decide
def hopE (r : Fin 4) : Dev nD ≃ Dev nD := ⟨peer r, frm r, frm_peer r, peer_frm r⟩

theorem dev1_eq (c : Dev nD) : (⟨k0_dev1 c, k0_dev1_lt c⟩ : Dev nD) = prv c := Fin.ext (k0_dev1_eq c)
theorem dev2_eq (c : Dev nD) : (⟨k0_dev2 c, k0_dev2_lt c⟩ : Dev nD) = nxt c := Fin.ext (k0_dev2_eq c)
theorem dev3_eq (c : Dev nD) : (⟨k0_dev3 c, k0_dev3_lt c⟩ : Dev nD) = peer 0 c := Fin.ext (k0_dev3_eq c)
theorem dev4_eq (c : Dev nD) : (⟨k0_dev4 c, k0_dev4_lt c⟩ : Dev nD) = peer 1 c := Fin.ext (k0_dev4_eq c)
theorem dev5_eq (c : Dev nD) : (⟨k0_dev5 c, k0_dev5_lt c⟩ : Dev nD) = peer 2 c := Fin.ext (k0_dev5_eq c)
theorem dev6_eq (c : Dev nD) : (⟨k0_dev6 c, k0_dev6_lt c⟩ : Dev nD) = peer 3 c := Fin.ext (k0_dev6_eq c)
theorem dev7_eq (c : Dev nD) : (⟨k0_dev7 c, k0_dev7_lt c⟩ : Dev nD) = peer 0 c := Fin.ext (k0_dev7_eq c)
theorem dev8_eq (c : Dev nD) : (⟨k0_dev8 c, k0_dev8_lt c⟩ : Dev nD) = peer 1 c := Fin.ext (k0_dev8_eq c)
theorem dev9_eq (c : Dev nD) : (⟨k0_dev9 c, k0_dev9_lt c⟩ : Dev nD) = peer 2 c := Fin.ext (k0_dev9_eq c)
theorem dev10_eq (c : Dev nD) : (⟨k0_dev10 c, k0_dev10_lt c⟩ : Dev nD) = peer 3 c := Fin.ext (k0_dev10_eq c)
theorem dev11_eq (c : Dev nD) : (⟨k0_dev11 c, k0_dev11_lt c⟩ : Dev nD) = peer 0 c := Fin.ext (k0_dev11_eq c)
theorem dev12_eq (c : Dev nD) : (⟨k0_dev12 c, k0_dev12_lt c⟩ : Dev nD) = peer 1 c := Fin.ext (k0_dev12_eq c)
theorem dev13_eq (c : Dev nD) : (⟨k0_dev13 c, k0_dev13_lt c⟩ : Dev nD) = peer 2 c := Fin.ext (k0_dev13_eq c)
theorem dev14_eq (c : Dev nD) : (⟨k0_dev14 c, k0_dev14_lt c⟩ : Dev nD) = peer 3 c := Fin.ext (k0_dev14_eq c)

/-! ## The pieces of the buffers -/

/-- Row chunk `t` of `x` as device `c` names it: the chunks of devices `c - 1`, `c + 1`, `c + 2`, `c`. -/
abbrev xR (c : Dev nD) (t : Fin 4) : Rect S2048x512 :=
  Rect.unit (s := S2048x512) (k0_off1 c (k0_off1_at t)) S512x512.size (k0_off1_inb c t)
theorem lane_inb (l : Fin 4) : ∀ a, ![0, 512 * l.val] a + S512x512.size a ≤ S512x2048.size a := by revert l; decide
theorem slot4_inb (s : Fin 4) : ∀ a, ![s.val, 0, 0] a + S1x512x512.size a ≤ S4x512x512.size a := by revert s; decide
theorem slot3_inb (s : Fin 3) : ∀ a, ![s.val, 0, 0] a + S1x512x512.size a ≤ S3x512x512.size a := by revert s; decide
theorem half_inb (h : Fin 2) : ∀ a, ![0, 1024 * h.val] a + S512x1024.size a ≤ S512x2048.size a := by revert h; decide
/-- Lane `l` of a buffer of 512 by 2048, -/
abbrev lane (l : Fin 4) : Rect S512x2048 := Rect.unit (s := S512x2048) ![0, 512 * l.val] S512x512.size (lane_inb l)
/-- its left or right half, -/
abbrev half (h : Fin 2) : Rect S512x2048 := Rect.unit (s := S512x2048) ![0, 1024 * h.val] S512x1024.size (half_inb h)
/-- slot `s` of an accumulator, -/
abbrev slot4 (s : Fin 4) : Rect S4x512x512 := Rect.unit (s := S4x512x512) ![s.val, 0, 0] S1x512x512.size (slot4_inb s)
/-- and of a landing buffer. -/
abbrev slot3 (s : Fin 3) : Rect S3x512x512 := Rect.unit (s := S3x512x512) ![s.val, 0, 0] S1x512x512.size (slot3_inb s)

theorem off1_eq (c : Dev nD) (t : Fin 4) : k0_off1 c (k0_off1_at t) = ![512 * ((c.val + ![3, 1, 2, 0] t) % 4), 0] := by
  revert c t; decide +kernel
theorem off2_eq (c : Dev nD) (t : Fin 4) : k0_off2 c (k0_off2_at t) = k0_off1 c (k0_off1_at t) := by
  revert c t; decide +kernel

/-- A rectangle at equal offsets is the same rectangle. -/
theorem rect_congr {s : Shape} {o o' : Fin s.rank → ℕ} {sz : Fin s.rank → ℕ} (h : o = o') (i : ∀ a, o a + sz a ≤ s.size a)
    (i' : ∀ a, o' a + sz a ≤ s.size a) : Rect.unit (s := s) o sz i = Rect.unit (s := s) o' sz i' := by subst h; rfl

/-- Through the offsets the loads compute, a row chunk is the same. -/
theorem xR_off2 (c : Dev nD) (t : Fin 4) :
    Rect.unit (s := S2048x512) (k0_off2 c (k0_off2_at t)) S512x512.size (k0_off2_inb c t) = xR c t :=
  rect_congr (off2_eq c t) _ _

theorem mem_unit {s : Shape} {o sz : Fin s.rank → ℕ} {i : ∀ a, o a + sz a ≤ s.size a} {x : s.Idx} :
    x ∈ (Rect.unit (s := s) o sz i).set ↔ ∀ a, o a ≤ (x a).val ∧ (x a).val < o a + sz a := by
  rw [LoadRect.mem_set]
  constructor
  · intro h a; obtain ⟨j, hj, e⟩ := h a
    simp only [Rect.unit] at hj e; omega
  · intro h a; refine ⟨(x a).val - o a, ?_, ?_⟩ <;> have := h a <;> simp only [Rect.unit] <;> omega

theorem mem_xR (c : Dev nD) (t : Fin 4) (x : S2048x512.Idx) : x ∈ (xR c t).set ↔ (x 0).val / 512 = (c.val + ![3, 1, 2, 0] t) % 4 := by
  rw [mem_unit, off1_eq]
  have h1 : (x 1).val < 512 := (x 1).isLt
  constructor
  · intro h; have h0 := h 0
    simp only [Matrix.cons_val_zero] at h0
    have e : S512x512.size 0 = 512 := rfl
    omega
  · intro h a
    fin_cases a
    · simp only [Matrix.cons_val_zero, Fin.zero_eta]; have e : S512x512.size 0 = 512 := rfl; omega
    · have e : S512x512.size 1 = 512 := rfl
      exact ⟨Nat.zero_le _, by show (x 1).val < 0 + 512; omega⟩

theorem mem_lane_at (k : ℕ) (i : ∀ a, ![0, 512 * k] a + S512x512.size a ≤ S512x2048.size a) (x : S512x2048.Idx) :
    x ∈ (Rect.unit (s := S512x2048) ![0, 512 * k] S512x512.size i).set ↔ (x 1).val / 512 = k := by
  have h0 : (x 0).val < 512 := (x 0).isLt
  rw [mem_unit]
  constructor
  · intro h
    have h1 : 512 * k ≤ (x 1).val ∧ (x 1).val < 512 * k + 512 := h 1
    omega
  · intro h a
    fin_cases a
    · show 0 ≤ (x 0).val ∧ (x 0).val < 0 + 512; omega
    · show 512 * k ≤ (x 1).val ∧ (x 1).val < 512 * k + 512; omega

theorem mem_lane (l : Fin 4) (x : S512x2048.Idx) : x ∈ (lane l).set ↔ (x 1).val / 512 = l.val := mem_lane_at l.val _ x

theorem mem_slot_at (n k : ℕ) (i : ∀ a, ![k, 0, 0] a + S1x512x512.size a ≤ (⟨3, ![n, 512, 512]⟩ : Shape).size a)
    (x : (⟨3, ![n, 512, 512]⟩ : Shape).Idx) :
    x ∈ (Rect.unit (s := ⟨3, ![n, 512, 512]⟩) ![k, 0, 0] S1x512x512.size i).set ↔ (x 0).val = k := by
  have h1 : (x 1).val < 512 := (x 1).isLt
  have h2 : (x 2).val < 512 := (x 2).isLt
  rw [mem_unit]
  constructor
  · intro h
    have h0 : k ≤ (x 0).val ∧ (x 0).val < k + 1 := h 0
    omega
  · intro h a
    fin_cases a
    · show k ≤ (x 0).val ∧ (x 0).val < k + 1; omega
    · show 0 ≤ (x 1).val ∧ (x 1).val < 0 + 512; omega
    · show 0 ≤ (x 2).val ∧ (x 2).val < 0 + 512; omega

theorem mem_slot4 (s : Fin 4) (x : S4x512x512.Idx) : x ∈ (slot4 s).set ↔ (x 0).val = s.val := mem_slot_at 4 s.val _ x
theorem mem_slot3 (s : Fin 3) (x : S3x512x512.Idx) : x ∈ (slot3 s).set ↔ (x 0).val = s.val := mem_slot_at 3 s.val _ x

/-- A family of rectangles told apart by a label of the index is disjoint, -/
theorem disjoint_of_label {s : Shape} {T L : Type} {r : T → Rect s} {f : s.Idx → L} {g : T → L} (hg : Function.Injective g)
    (h : ∀ t x, x ∈ (r t).set ↔ f x = g t) (t t' : T) (htt : t ≠ t') : Disjoint (r t).set (r t').set :=
  Finset.disjoint_left.mpr fun x hx hx' => htt (hg (((h t x).mp hx).symm.trans ((h t' x).mp hx')))
/-- and covers if every label is taken. -/
theorem cover_of_label {s : Shape} {T L : Type} [Fintype T] {r : T → Rect s} {f : s.Idx → L} {g : T → L}
    (hg : ∀ x, ∃ t, f x = g t) (h : ∀ t x, x ∈ (r t).set ↔ f x = g t) :
    (Finset.univ : Finset T).biUnion (fun t => (r t).set) = Finset.univ :=
  Finset.eq_univ_of_forall fun x => by
    obtain ⟨t, ht⟩ := hg x
    exact Finset.mem_biUnion.mpr ⟨t, Finset.mem_univ _, (h t x).mpr ht⟩

theorem xR_disj (c : Dev nD) (t t' : Fin 4) (h : t ≠ t') : Disjoint (xR c t).set (xR c t').set :=
  disjoint_of_label (f := fun x : S2048x512.Idx => (x 0).val / 512) (g := fun t : Fin 4 => (c.val + ![3, 1, 2, 0] t) % 4)
    (by revert c; decide) (mem_xR c) t t' h
theorem xR_cover (c : Dev nD) : (Finset.univ : Finset (Fin 4)).biUnion (fun t => (xR c t).set) = Finset.univ :=
  cover_of_label (f := fun x : S2048x512.Idx => (x 0).val / 512) (g := fun t : Fin 4 => (c.val + ![3, 1, 2, 0] t) % 4)
    (fun x => by
      have h : (x 0).val / 512 < 4 := Nat.div_lt_of_lt_mul (x 0).isLt
      have : ∀ n : Fin 4, ∃ t : Fin 4, n.val = (c.val + ![3, 1, 2, 0] t) % 4 := by revert c; decide
      exact this ⟨_, h⟩) (mem_xR c)
theorem lane_disj (t t' : Fin 4) (h : t ≠ t') : Disjoint (lane t).set (lane t').set :=
  disjoint_of_label (f := fun x : S512x2048.Idx => (x 1).val / 512) Fin.val_injective mem_lane t t' h
theorem lane_cover : (Finset.univ : Finset (Fin 4)).biUnion (fun t => (lane t).set) = Finset.univ :=
  cover_of_label (f := fun x : S512x2048.Idx => (x 1).val / 512) (g := Fin.val)
    (fun x => ⟨⟨(x 1).val / 512, Nat.div_lt_of_lt_mul (x 1).isLt⟩, rfl⟩) mem_lane
theorem slot4_disj (t t' : Fin 4) (h : t ≠ t') : Disjoint (slot4 t).set (slot4 t').set :=
  disjoint_of_label (f := fun x : S4x512x512.Idx => (x 0).val) Fin.val_injective mem_slot4 t t' h
theorem slot4_cover : (Finset.univ : Finset (Fin 4)).biUnion (fun t => (slot4 t).set) = Finset.univ :=
  cover_of_label (f := fun x : S4x512x512.Idx => (x 0).val) (g := Fin.val) (fun x => ⟨x 0, rfl⟩) mem_slot4
theorem slot3_disj (t t' : Fin 3) (h : t ≠ t') : Disjoint (slot3 t).set (slot3 t').set :=
  disjoint_of_label (f := fun x : S3x512x512.Idx => (x 0).val) Fin.val_injective mem_slot3 t t' h
theorem slot3_cover : (Finset.univ : Finset (Fin 3)).biUnion (fun t => (slot3 t).set) = Finset.univ :=
  cover_of_label (f := fun x : S3x512x512.Idx => (x 0).val) (g := Fin.val) (fun x => ⟨x 0, rfl⟩) mem_slot3

/-! ## The memrefs -/

abbrev xvM : Memref sig .tc .vmem S2048x512 .f32 := Memref.whole cc0_scratch0
abbrev wvM : Memref sig .tc .vmem S512x2048 .f32 := Memref.whole cc0_scratch1
abbrev ovM : Memref sig .tc .vmem S512x2048 .bf16 := Memref.whole cc0_scratch2
abbrev wbM : Memref sig .tc .vmem S512x2048 .bf16 := Memref.whole cc0_scratch3
abbrev xM : Memref sig .tc .hbm S2048x512 .f32 := Memref.whole main_arg0
abbrev wM : Memref sig .tc .hbm S512x2048 .f32 := Memref.whole main_arg1
abbrev oM : Memref sig .tc .hbm S512x2048 .bf16 := Memref.whole main_v1
/-- The accumulator of ring `r`, -/
abbrev accM (r : Fin 4) : Memref sig .tc .vmem S4x512x512 .bf16 := match r with
  | 0 => Memref.whole cc0_scratch4 | 1 => Memref.whole cc0_scratch6 | 2 => Memref.whole cc0_scratch5 | 3 => Memref.whole cc0_scratch7
/-- its landing buffer, -/
abbrev comM (r : Fin 4) : Memref sig .tc .vmem S3x512x512 .bf16 := match r with
  | 0 => Memref.whole cc0_scratch8 | 1 => Memref.whole cc0_scratch10 | 2 => Memref.whole cc0_scratch9 | 3 => Memref.whole cc0_scratch11
/-- one slot of each. -/
abbrev accS (r : Fin 4) (s : Fin 4) : Memref sig .tc .vmem S1x512x512 .bf16 := (accM r).slice (slot4 s) (fun _ => rfl)
abbrev comS (r : Fin 4) (s : Fin 3) : Memref sig .tc .vmem S1x512x512 .bf16 := (comM r).slice (slot3 s) (fun _ => rfl)

/-! ## The semaphores -/

/-- The runtime's barrier semaphore, -/
abbrev barS : Sem sig := (SemArray.scalar (sig.barrier 0 rfl) : Sems sig S_).sem
def sendN (r : Fin 4) (s : Fin 3) : ℕ := 12 + 6 * (r.val % 2 * 2 + r.val / 2) + s.val
theorem sendN_lt (r : Fin 4) (s : Fin 3) : sendN r s + 3 < 36 := by revert r s; decide
/-- the send and receive semaphores of hop `s` of ring `r`. -/
def sendS (r : Fin 4) (s : Fin 3) : DmaSem sig := ⟨sendN r s, by have := sendN_lt r s; show sendN r s < 36; omega⟩
def recvS (r : Fin 4) (s : Fin 3) : DmaSem sig := ⟨sendN r s + 3, by have := sendN_lt r s; show sendN r s + 3 < 36; omega⟩

/-- Which cell of the rings a DMA semaphore is: receive side or not, ring, hop. -/
def dec (q : DmaSem sig) : Option (Bool × Fin 4 × Fin 3) :=
  if q.val < 12 then none
  else some (decide ((q.val - 12) / 3 % 2 = 1), ![0, 2, 1, 3] ⟨(q.val - 12) / 6 % 4, Nat.mod_lt _ (by decide)⟩,
    ⟨(q.val - 12) % 3, Nat.mod_lt _ (by decide)⟩)
theorem dec_send (r : Fin 4) (s : Fin 3) : dec (sendS r s) = some (false, r, s) := by revert r s; decide
theorem dec_recv (r : Fin 4) (s : Fin 3) : dec (recvS r s) = some (true, r, s) := by revert r s; decide

/-- The cells of the rings on one device: its barrier cell, and a send and a receive cell per ring and hop. -/
abbrev CK : Type := Option (Bool × Fin 4 × Fin 3)
def csem : CK → SemLoc sig
  | none => .reg barS
  | some (false, r, s) => .dma (sendS r s)
  | some (true, r, s) => .dma (recvS r s)
abbrev kcell (ck : Dev nD × CK) : GSem nD τ sig := ((ck.1 : Thread nD τ), csem ck.2)
abbrev barCell (c : Dev nD) : GSem nD τ sig := ((c : Thread nD τ), .reg barS)
abbrev sendCell (c : Dev nD) (r : Fin 4) (s : Fin 3) : GSem nD τ sig := ((c : Thread nD τ), .dma (sendS r s))
abbrev recvCell (c : Dev nD) (r : Fin 4) (s : Fin 3) : GSem nD τ sig := ((c : Thread nD τ), .dma (recvS r s))

/-- What one hop credits: one slot's bytes. -/
abbrev N : ℕ := (comS 0 0).view.dmaCredit
theorem N_pos : 0 < N := View.dmaCredit_pos _ (by decide)

/-! ## Contents -/

section Contents

/-- The arguments on device `c`, -/
def x0 (c : Dev nD) : Vec F S2048x512 .f32 := m ((c : Thread nD τ).loc main_arg0)
def w0 (c : Dev nD) : Vec F S512x2048 .f32 := m ((c : Thread nD τ).loc main_arg1)
/-- row chunk `t` of `x`, -/
def xc (c : Dev nD) (t : Fin 4) : Vec F S512x512 .f32 := fun i => x0 m c ((xR c t).emb i)
/-- lane `l` of `w`, -/
def wc (c : Dev nD) (l : Fin 4) : Vec F S512x512 .f32 := fun i => w0 m c ((lane l).emb i)
/-- `w` rounded, its lanes and its halves. -/
def wb (c : Dev nD) : Vec F S512x2048 .bf16 := truncf .bf16 (w0 m c : FVec F S512x2048 .f32) bitsLt_bf16_f32
def wbl (c : Dev nD) (l : Fin 4) : Vec F S512x512 .bf16 := fun i => wb m c ((lane l).emb i)
def wbh (c : Dev nD) (h : Fin 2) : Vec F S512x1024 .bf16 := fun i => wb m c ((half h).emb i)

/-- The lane ring `r` sums, and the ring which sums lane `l`. -/
def laneOf (r : Fin 4) : Fin 4 := ![0, 2, 1, 3] r

/-- The product which device `c` adds on ring `r` at step `s`: before the first hop, and after each. -/
def prodAt (r : Fin 4) (s : ℕ) (c : Dev nD) : Vec F S1x512x512 .bf16 := match r, s with
  | 0, 0 => k0_pay5 (xc m c 0) (wbl m c 0)
  | 1, 0 => k0_pay5 (xc m c 1) (wbl m c 2)
  | 2, 0 => k0_pay5 (xc m c 0) (wbl m c 1)
  | 3, 0 => k0_pay5 (xc m c 1) (wbl m c 3)
  | 0, 1 => k0_pay12 (xc m c 2) (wb m c)
  | 1, 1 => k0_pay14 (xc m c 2) (wb m c)
  | 2, 1 => k0_pay13 (xc m c 2) (wb m c)
  | 3, 1 => k0_pay15 (xc m c 2) (wb m c)
  | 0, 2 => k0_pay17 (xc m c 1) (wbh m c 0)
  | 1, 2 => k0_pay20 (xc m c 0) (wbh m c 1)
  | 2, 2 => k0_pay18 (xc m c 1) (wbh m c 0)
  | 3, 2 => k0_pay22 (k0_pay21 (xc m c 0) (wbh m c 1))
  | 0, _ => k0_pay24 (xc m c 3) (wb m c)
  | 1, _ => k0_pay26 (xc m c 3) (wb m c)
  | 2, _ => k0_pay25 (xc m c 3) (wb m c)
  | 3, _ => k0_pay28 (k0_pay27 (xc m c 3) (wb m c))

/-- What slot `s` of device `c`'s accumulator of ring `r` holds when it is sent: its own product plus what the hop before brought. -/
def accAt (r : Fin 4) : ℕ → Dev nD → Vec F S1x512x512 .bf16
  | 0, c => prodAt m r 0 c
  | s + 1, c => k0_pay29 (accAt r s (frm r c)) (prodAt m r (s + 1) c)

/-- The lane of the result which ring `r` computes on device `c`, -/
def outLane (r : Fin 4) (c : Dev nD) : Vec F S512x512 .bf16 := k0_pay38 (accAt m r 2 (frm r c)) (prodAt m r 3 c)
/-- and the whole result. -/
def outB (c : Dev nD) : Vec F S512x2048 .bf16 := fun i =>
  outLane m (laneOf ⟨(i 1).val / 512, Nat.div_lt_of_lt_mul (i 1).isLt⟩) c
    (fun a => match a with | ⟨0, _⟩ => i 0 | ⟨1, _⟩ => ⟨(i 1).val % 512, Nat.mod_lt _ (by decide)⟩)

omit [FloatOps F] in
theorem lane_emb_0 (l : Fin 4) (i : S512x512.Idx) : (((lane l).emb i) 0).val = (i 0).val := by
  rw [Rect.emb_apply]; show 0 + 1 * (i 0).val = _; omega
omit [FloatOps F] in
theorem lane_emb_1 (l : Fin 4) (i : S512x512.Idx) : (((lane l).emb i) 1).val = 512 * l.val + (i 1).val := by
  rw [Rect.emb_apply]; show 512 * l.val + 1 * (i 1).val = _; omega

theorem outB_lane (c : Dev nD) (l : Fin 4) (i : S512x512.Idx) : outB m c ((lane l).emb i) = outLane m (laneOf l) c i := by
  have h1 := lane_emb_1 l i
  have h0 := lane_emb_0 l i
  have hi : (i 1).val < 512 := (i 1).isLt
  unfold outB
  congr 2
  · refine Fin.ext ?_; show (((lane l).emb i) 1).val / 512 = l.val; omega
  · funext a
    fin_cases a
    · exact Fin.ext h0
    · refine Fin.ext ?_; show (((lane l).emb i) 1).val % 512 = (i 1).val; omega

/-- Rounding a lane and storing it at the same shape stores the lane of the rounded array. -/
theorem pay1_wc (c : Dev nD) (l : Fin 4) : k0_pay1 (wc m c l) = wbl m c l := by
  unfold k0_pay1
  exact Idealize.ShloMosaic.shapeCast_self _ _

end Contents

end Cert.KernelIdeal.Rings

end
-- ==== Proof.Proto.lean ====
/-
# The rings' protocol: schedule, tallies, levels

One round per cell. The barrier cell of a device has two duties of one unit: `true` is paid by the next device, which hands
the landing slots of the rings towards it, `false` by the previous one. A send cell returns the sender's slot, a receive
cell hands the slot that has landed.

A device owes one hop's credit to each receive cell it sends to; `rem c j` is what it still owes when `j` of its
twelve hops are left. The levels order the waits: barrier cells 1, the receive cell of hop `s` of ring `r` at
`2 + 4 s + r`, everything else 0. A device always waits below what it still owes.
-/
module

public import proofs.«01_k».proof.Proof.Common

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- Device `c` owns all of a memref, at some contents. -/
def hold {sp : Space} {sh : Shape} {e : EltTy} (c : Dev nD) (M : Memref sig .tc sp sh e) : sProp 𝕄 :=
  iprop(∃ X : sh.Idx → Elt F e, owns (c : Thread nD τ) M fullShare X)
/-- Device `c` owns all of a memref, reading `X`. -/
abbrev has {sp : Space} {sh : Shape} {e : EltTy} (c : Dev nD) (M : Memref sig .tc sp sh e) (X : sh.Idx → Elt F e) : sProp 𝕄 :=
  owns (c : Thread nD τ) M fullShare X

omit [FloatOps F] in
instance hold_storable {sp : Space} {sh : Shape} {e : EltTy} (c : Dev nD) (M : Memref sig .tc sp sh e) :
    BI.Storable (upEmb : UEmb _ 𝕄) (hold (F := F) c M) := by unfold hold; infer_instance

omit [FloatOps F] in
theorem has_hold {sp : Space} {sh : Shape} {e : EltTy} (c : Dev nD) (M : Memref sig .tc sp sh e) (X : sh.Idx → Elt F e) :
    (has c M X : sProp 𝕄) ⊢ hold c M := by unfold hold; iintro H; iexists X; iexact H

/-- The landing slots of ring `r` on device `d`. -/
def landing (d : Dev nD) (r : Fin 4) : sProp 𝕄 :=
  iprop(hold (F := F) d (comS r 0) ∗ hold (F := F) d (comS r 1) ∗ hold (F := F) d (comS r 2))

/-- What the barrier duty `d` of device `c` hands it: the landing slots on the neighbour it will write. -/
def barPay (c : Dev nD) (d : Bool) : sProp 𝕄 :=
  if d then iprop(landing (F := F) (nxt c) 0 ∗ landing (F := F) (nxt c) 2)
  else iprop(landing (F := F) (prv c) 1 ∗ landing (F := F) (prv c) 3)

/-- What a cell of hop `s` of ring `r` hands device `c`: the receive cell what `frm r c` sent, the send cell `c`'s own slot. -/
def hopPay (c : Dev nD) (b : Bool) (r : Fin 4) (s : Fin 3) : sProp 𝕄 :=
  if b then has c (comS r s) (accAt m r s.val (frm r c)) else has c (accS r s.castSucc) (accAt m r s.val c)

/-! ## The schedule -/

def dutiesOf (sm : SemLoc sig) : Finset Bool := match sm with
  | .reg _ => Finset.univ
  | .dma q => if (dec q).isSome then {false} else ∅
def amountOf (sm : SemLoc sig) : ℕ := match sm with
  | .reg _ => 1
  | .dma _ => N
def payOf (c : Dev nD) (sm : SemLoc sig) (d : Bool) : sProp 𝕄 := match sm with
  | .reg _ => barPay c d
  | .dma q => match dec q with
    | none => iprop(emp)
    | some (b, r, s) => hopPay m c b r s

def ringRd : Rounds.Schedule (GSem nD τ sig) Bool 𝕄 where
  duties g r := if r = 0 ∧ g.1.2 = .tc then dutiesOf g.2 else ∅
  unitless _ := False
  amount g _ _ := amountOf g.2
  payload g _ d := payOf m g.1.1 g.2 d
  amount_pos g _ _ _ := by
    rcases g with ⟨t, sm | q⟩
    · exact Nat.one_pos
    · exact N_pos

instance ringRd_payload_storable (g : GSem nD τ sig) (r : ℕ) (d : Bool) :
    BI.Storable (upEmb : UEmb _ 𝕄) ((ringRd (F := F) m).payload g r d) := by
  show BI.Storable upEmb (payOf m g.1.1 g.2 d)
  rcases g with ⟨t, sm | q⟩
  · show BI.Storable upEmb (barPay t.1 d)
    unfold barPay landing; split <;> infer_instance
  · show BI.Storable upEmb (match dec q with | none => iprop(emp) | some (b, r, s) => hopPay m t.1 b r s)
    split
    · infer_instance
    · unfold hopPay; split <;> infer_instance

section Sched
variable (c : Dev nD) (r : Fin 4) (s : Fin 3)

theorem duties_tc (sm : SemLoc sig) : (ringRd (F := F) m).duties ((c : Thread nD τ), sm) 0 = dutiesOf sm := by
  dsimp only [ringRd]; exact if_pos ⟨rfl, rfl⟩
theorem duties_bar : (ringRd (F := F) m).duties (barCell c) 0 = Finset.univ := duties_tc m c _
theorem duties_send : (ringRd (F := F) m).duties (sendCell c r s) 0 = {false} := by
  rw [duties_tc]; show (if (dec (sendS r s)).isSome then _ else _) = _; rw [dec_send]; rfl
theorem duties_recv : (ringRd (F := F) m).duties (recvCell c r s) 0 = {false} := by
  rw [duties_tc]; show (if (dec (recvS r s)).isSome then _ else _) = _; rw [dec_recv]; rfl
theorem duties_later (g : GSem nD τ sig) : ∀ k, 1 ≤ k → (ringRd (F := F) m).duties g k = ∅ :=
  fun k hk => by dsimp only [ringRd]; exact if_neg fun h => by omega
theorem amount_bar (d : Bool) : (ringRd (F := F) m).amount (barCell c) 0 d = 1 := rfl
theorem amount_send (d : Bool) : (ringRd (F := F) m).amount (sendCell c r s) 0 d = N := rfl
theorem amount_recv (d : Bool) : (ringRd (F := F) m).amount (recvCell c r s) 0 d = N := rfl
theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_send : (ringRd (F := F) m).expect (sendCell c r s) 0 = N := by
  unfold Schedule.expect Schedule.amountOf; rw [duties_send, Finset.sum_singleton, amount_send]
theorem expect_recv : (ringRd (F := F) m).expect (recvCell c r s) 0 = N := by
  unfold Schedule.expect Schedule.amountOf; rw [duties_recv, Finset.sum_singleton, amount_recv]
theorem payload_bar (d : Bool) : (ringRd (F := F) m).payload (barCell c) 0 d = barPay c d := rfl
theorem payload_send (d : Bool) : (ringRd (F := F) m).payload (sendCell c r s) 0 d = has c (accS r s.castSucc) (accAt m r s.val c) := by
  show (match dec (sendS r s) with | none => iprop(emp) | some (b, r, s) => hopPay m c b r s) = _
  rw [dec_send]; rfl
theorem payload_recv (d : Bool) : (ringRd (F := F) m).payload (recvCell c r s) 0 d = has c (comS r s) (accAt m r s.val (frm r c)) := by
  show (match dec (recvS r s) with | none => iprop(emp) | some (b, r, s) => hopPay m c b r s) = _
  rw [dec_recv]; rfl

theorem rest_bar : bigSep ((ringRd (F := F) m).duties (barCell c) 0 \ ∅) (fun d => (ringRd (F := F) m).payload (barCell c) 0 d)
    = iprop(barPay c false ∗ barPay c true) := by
  rw [Finset.sdiff_empty, duties_bar, bigSep_univ_eq_bigSepL [false, true] (by decide) (by decide), bigSepL_cons_cons, bigSepL_singleton]
  rfl
theorem rest_send : bigSep ((ringRd (F := F) m).duties (sendCell c r s) 0 \ ∅) (fun d => (ringRd (F := F) m).payload (sendCell c r s) 0 d)
    = has c (accS r s.castSucc) (accAt m r s.val c) := by
  rw [Finset.sdiff_empty, duties_send, bigSep_singleton, payload_send]
theorem rest_recv : bigSep ((ringRd (F := F) m).duties (recvCell c r s) 0 \ ∅) (fun d => (ringRd (F := F) m).payload (recvCell c r s) 0 d)
    = has c (comS r s) (accAt m r s.val (frm r c)) := by
  rw [Finset.sdiff_empty, duties_recv, bigSep_singleton, payload_recv]
end Sched

/-! ## What a device owes -/

/-- The credit of the `k`-th of its hops, -/
def due (c : Dev nD) (k : ℕ) : CellTallies nD τ sig Unit :=
  tallyAt (recvCell (peer ⟨k % 4, Nat.mod_lt _ (by decide)⟩ c) ⟨k % 4, Nat.mod_lt _ (by decide)⟩ ⟨k / 4 % 3, Nat.mod_lt _ (by decide)⟩) () N
/-- and of the last `j` of them. -/
def rem (c : Dev nD) : ℕ → CellTallies nD τ sig Unit
  | 0 => 0
  | j + 1 => rem c j + due c (11 - j)

theorem rem_step (c : Dev nD) (j : ℕ) (r : Fin 4) (s : Fin 3) (h : j + (4 * s.val + r.val) = 11) :
    rem c (j + 1) = rem c j + tallyAt (recvCell (peer r c) r s) () N := by
  have e : 11 - j = 4 * s.val + r.val := by omega
  have hr : (⟨(11 - j) % 4, Nat.mod_lt _ (by decide)⟩ : Fin 4) = r := Fin.ext (by show (11 - j) % 4 = r.val; omega)
  have hs : (⟨(11 - j) / 4 % 3, Nat.mod_lt _ (by decide)⟩ : Fin 3) = s := Fin.ext (by show (11 - j) / 4 % 3 = s.val; omega)
  show rem c j + due c (11 - j) = _
  unfold due; rw [hr, hs]

/-- At launch: every hop's credit, and one unit on each neighbour's barrier cell. -/
def owed₁ (c : Dev nD) : CellTallies nD τ sig Unit := rem c 12 + tallyAt (barCell (nxt c)) () 1
def owed₀ (c : Dev nD) : CellTallies nD τ sig Unit := owed₁ c + tallyAt (barCell (prv c)) () 1

theorem rem_pos {c : Dev nD} {g : GSem nD τ sig} {u : Unit} : ∀ {j : ℕ}, 0 < rem c j g u →
    ∃ (r : Fin 4) (k : ℕ) (s : Fin 3), 12 - j ≤ k ∧ k < 12 ∧ r.val = k % 4 ∧ s.val = k / 4 ∧ g = recvCell (peer r c) r s
  | 0, h => absurd h (Nat.lt_irrefl 0)
  | j + 1, h => by
    unfold rem at h
    rw [Pi.add_apply, Finsupp.add_apply] at h
    rcases Nat.eq_zero_or_pos (due c (11 - j) g u) with hz | hp
    · obtain ⟨r, k, s, h1, h2⟩ := rem_pos (j := j) (by rw [hz, Nat.add_zero] at h; exact h)
      exact ⟨r, k, s, by omega, h2⟩
    · unfold due at hp
      rw [tallyAt_apply] at hp
      by_cases hg : g = recvCell (peer ⟨(11 - j) % 4, Nat.mod_lt _ (by decide)⟩ c) ⟨(11 - j) % 4, Nat.mod_lt _ (by decide)⟩ ⟨(11 - j) / 4 % 3, Nat.mod_lt _ (by decide)⟩ ∧ u = ()
      · exact ⟨_, 11 - j, _, by omega, by omega, rfl, by show (11 - j) / 4 % 3 = _; omega, hg.1⟩
      · rw [if_neg hg] at hp; exact absurd hp (Nat.lt_irrefl 0)

/-! ## Levels -/

def L (g : GSem nD τ sig) : Finset Unit := if g.1.2 = .tc then {()} else ∅
/-- The level of a semaphore. -/
def lev (sm : SemLoc sig) : ℕ := match sm with
  | .reg _ => 1
  | .dma q => match dec q with
    | some (true, r, s) => 2 + (4 * s.val + r.val)
    | _ => 0
def lv (g : GSem nD τ sig) (_ : Unit) : ℕ := lev g.2

theorem lev_recv (r : Fin 4) (s : Fin 3) : lev (.dma (recvS r s)) = 2 + (4 * s.val + r.val) := by
  show (match dec (recvS r s) with | some (true, r, s) => 2 + (4 * s.val + r.val) | _ => 0) = _; rw [dec_recv]
theorem lev_send (r : Fin 4) (s : Fin 3) : lev (.dma (sendS r s)) = 0 := by
  show (match dec (sendS r s) with | some (true, r, s) => 2 + (4 * s.val + r.val) | _ => 0) = _; rw [dec_send]

theorem L_of_ne (g : GSem nD τ sig) (h : g.1.2 ≠ .tc) : L g = ∅ := if_neg h
theorem L_tc (c : Dev nD) (sm : SemLoc sig) : L ((c : Thread nD τ), sm) = {()} := if_pos rfl

omit [FloatOps F] in
/-- With `j` hops left a device may wait on any semaphore below the receive cells of those hops. -/
theorem mayWait (c : Dev nD) (sm : SemLoc sig) (j : ℕ) (h : lev sm < 14 - j) :
    (levAts L lv : sProp 𝕄) ⊢ MayWait (c : Thread nD τ) sm () (rem c j) :=
  MayOwe.of_cut (L := L) (lev := lv) (lev sm) (fun p hp => by rw [Finset.mem_singleton.mp hp, L_tc]; exact Finset.mem_singleton_self _)
    (fun g u hg => by
      obtain ⟨r, k, s, -, -, -, -, rfl⟩ := rem_pos hg
      rw [L_tc]; exact Finset.mem_singleton_self _)
    (fun p hp => by rw [Finset.mem_singleton.mp hp]; exact le_refl _)
    (fun g u hg => by
      obtain ⟨r, k, s, h1, h2, h3, h4, rfl⟩ := rem_pos hg
      show lev sm < lev (.dma (recvS r s)); rw [lev_recv]; omega)

/-! ## The ghost state of one device -/

/-- All cells' invariants and round marks, under the names the launch allocated. -/
def records (K : Dev nD × CK → ℕ) : sProp 𝕄 :=
  iprop((bigSep Finset.univ fun ck => cellInv ER (ringRd m) (K ck) (kcell ck)) ∗ bigSep Finset.univ fun ck => reached ER (kcell ck) 0)

instance records_persistent (K : Dev nD × CK → ℕ) : BI.Persistent (records m K) := by unfold records; infer_instance

theorem inv_pick (K : Dev nD × CK → ℕ) (ck : Dev nD × CK) :
    (bigSep Finset.univ fun ck => cellInv ER (ringRd m) (K ck) (kcell ck) : sProp 𝕄) ⊢ cellInv ER (ringRd m) (K ck) (kcell ck) :=
  bigSep_elim (Finset.mem_univ ck)
omit [FloatOps F] in
theorem reached_pick (ck : Dev nD × CK) :
    (bigSep Finset.univ fun ck => reached ER (kcell ck) 0 : sProp 𝕄) ⊢ reached ER (kcell ck) 0 :=
  bigSep_elim (Finset.mem_univ ck)
theorem inv_at (K : Dev nD × CK → ℕ) (ck : Dev nD × CK) : records m K ⊢ cellInv ER (ringRd m) (K ck) (kcell ck) := by
  unfold records; iintro ⟨H, -⟩; iapply (inv_pick m K ck) $$ H
theorem reached_at (K : Dev nD × CK → ℕ) (ck : Dev nD × CK) : records m K ⊢ reached ER (kcell ck) 0 := by
  unfold records; iintro ⟨-, H⟩; iapply (reached_pick (F := F) ck) $$ H

/-- What hop `s` of ring `r` takes: positions on the device's own send and receive cell, the duty tokens it pays, its receive credit; -/
def kit0 (c : Dev nD) (r : Fin 4) (s : Fin 3) : sProp 𝕄 :=
  iprop(atPos ER (sendCell c r s) 0 ∅ 0 ∗ atPos ER (recvCell c r s) 0 ∅ 0 ∗ dutyTok ER (sendCell c r s) 0 false
    ∗ dutyTok ER (recvCell (peer r c) r s) 0 false ∗ cred (tallyAt (recvCell c r s) () N))
/-- what is left of it once the hop is sent. -/
def kit1 (c : Dev nD) (r : Fin 4) (s : Fin 3) : sProp 𝕄 :=
  iprop(atPos ER (sendCell c r s) 0 ∅ 0 ∗ atPos ER (recvCell c r s) 0 ∅ 0 ∗ cred (tallyAt (sendCell c r s) () N) ∗ cred (tallyAt (recvCell c r s) () N))
/-- what is left of it once the send is waited for, -/
def kit2 (c : Dev nD) (r : Fin 4) (s : Fin 3) : sProp 𝕄 :=
  iprop(semVal (sendCell c r s) 0 ∗ atPos ER (recvCell c r s) 0 ∅ 0 ∗ cred (tallyAt (recvCell c r s) () N))
/-- and at the end. -/
def kit3 (c : Dev nD) (r : Fin 4) (s : Fin 3) : sProp 𝕄 :=
  iprop(semVal (sendCell c r s) 0 ∗ semVal (recvCell c r s) 0)

/-- What a device owes, whatever it has waited for. -/
def owing (c : Dev nD) (O : CellTallies nD τ sig Unit) : sProp 𝕄 := iprop(∃ W, owes (c : Thread nD τ) O W)

end Cert.KernelIdeal.Rings

end
-- ==== Proof.Steps.lean ====
/-
# One step of the body at a time

Each lemma executes one operation of the body from the pieces it touches: a load, a store, a copy within the device and
its wait, a signal, the barrier wait, and a hop of a ring with its two waits. A program may name a piece,
a semaphore or a device by other terms than the protocol does: the lemmas take the equations.
-/
module

public import proofs.«01_k».proof.Proof.Proto

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The weakest precondition of a program on device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Local

variable (c : Dev nD) {cs : CoreSpace} {s : Shape} {e : EltTy} {M : Memref sig .tc cs s e} {o o' sz : Fin s.rank → ℕ}
  {i : ∀ a, o a + sz a ≤ s.size a} {i' : ∀ a, o' a + sz a ≤ s.size a} {h1 : ∀ a, (Rect.unit (s := s) o sz i).stride a = 1}

omit [FloatOps F] in
theorem unfold_owns {sp : Space} (M : Memref sig .tc sp s e) (q : PosShare TreeShare) (X : s.Idx → Elt F e) :
    (owns (c : Thread nD τ) M q X : sProp 𝕄) ⊢ iprop(∃ f, ⌜M.view.read (Elt F) f = X⌝ ∗ (M.view.loc (c : Thread nD τ) ↦[M.view.set]{q} f)) := .rfl

/-- A load of a piece which is owned as such. -/
theorem load_own {α : Type} {Q : α → sProp 𝕄} (h : o' = o) {hl : M.view.LoadsAt (Rect.unit (s := s) o' sz i').toLoadRect} {q : PosShare TreeShare}
    {X : (Rect.unit (s := s) o sz i).shape.Idx → Elt F e}
    {k : ((Rect.unit (s := s) o sz i).shape.Idx → Elt F e) → Prog (TpuEff nD τ sig (Elt F) Λ₀ .tc) α} :
    owns (c : Thread nD τ) (M.slice (Rect.unit (s := s) o sz i) h1) q X
      ⊢ iprop((owns (c : Thread nD τ) (M.slice (Rect.unit (s := s) o sz i) h1) q X -∗ wpc c (k X) Q)
          -∗ wpc c (.op (.load M (Rect.unit (s := s) o' sz i').toLoadRect hl) k) Q) := by
  subst h
  iintro H Hk
  ihave H' := (unfold_owns c (M.slice (Rect.unit (s := s) o' sz i) h1) q X) $$ H
  icases H' with ⟨%f, %hf, H⟩
  iapply (wp_load_rect 𝒱₀ (c : Thread nD τ) none Set.univ (m := M) (r := Rect.unit (s := s) o' sz i) (f := f) (subset_refl _)) $$ H
  iintro H
  subst hf
  iapply Hk
  iapply (owns_intro (c : Thread nD τ) (M.slice (Rect.unit (s := s) o' sz i) h1) q f) $$ H

/-- A load of a part of a memref which is owned entirely. -/
theorem load_sub {α : Type} {Q : α → sProp 𝕄} {r : Rect s} {hl : M.view.LoadsAt r.toLoadRect} {q : PosShare TreeShare} {X : s.Idx → Elt F e}
    {Y : r.shape.Idx → Elt F e} (hY : (fun j => X (r.emb j)) = Y)
    {k : (r.shape.Idx → Elt F e) → Prog (TpuEff nD τ sig (Elt F) Λ₀ .tc) α} :
    owns (c : Thread nD τ) M q X
      ⊢ iprop((owns (c : Thread nD τ) M q X -∗ wpc c (k Y) Q) -∗ wpc c (.op (.load M r.toLoadRect hl) k) Q) := by
  iintro H Hk
  ihave H' := (unfold_owns c M q X) $$ H
  icases H' with ⟨%f, %hf, H⟩
  iapply (wp_load_rect 𝒱₀ (c : Thread nD τ) none Set.univ (m := M) (r := r) (f := f) (View.set_slice_subset _ _)) $$ H
  iintro H
  subst hf
  have e : (M.access r).read (Elt F) f = Y := by rw [← hY]; rfl
  rw [e]
  iapply Hk
  iapply (owns_intro (c : Thread nD τ) M q f) $$ H

/-- A store into a piece which is owned as such. -/
theorem store_own {α : Type} {Q : α → sProp 𝕄} (h : o' = o) {w : (Rect.unit (s := s) o sz i).shape.Idx → Elt F e}
    {hx : (M.access (Rect.unit (s := s) o' sz i')).Stores Finset.univ}
    {hm : (Finset.univ : Finset (Rect.unit (s := s) o' sz i').shape.Idx) = Finset.univ ∨ ∀ a, (Rect.unit (s := s) o' sz i').stride a = 1}
    {k : PUnit → Prog (TpuEff nD τ sig (Elt F) Λ₀ .tc) α} :
    hold c (M.slice (Rect.unit (s := s) o sz i) h1)
      ⊢ iprop((has c (M.slice (Rect.unit (s := s) o sz i) h1) w -∗ wpc c (k ⟨⟩) Q)
          -∗ wpc c (.op (.store M (Rect.unit (s := s) o' sz i') w Finset.univ hx hm) k) Q) := by
  subst h
  unfold hold
  iintro ⟨%X, H⟩ Hk
  ihave H' := (unfold_owns c (M.slice (Rect.unit (s := s) o' sz i) h1) fullShare X) $$ H
  icases H' with ⟨%f, %hf, H⟩
  iapply (wp_store 𝒱₀ (c : Thread nD τ) none Set.univ (m := M) (r := Rect.unit (s := s) o' sz i) (w := w) (Mk := Finset.univ) (f := f)
    (S := (M.slice (Rect.unit (s := s) o' sz i) h1).view.set) (subset_refl _)) $$ H
  iintro H
  iapply Hk
  have e : (M.access (Rect.unit (s := s) o' sz i)).read (Elt F) ((M.access (Rect.unit (s := s) o' sz i)).write (Elt F) f w Finset.univ) = w :=
    View.read_write_univ _ _
  ihave H := (owns_intro (c : Thread nD τ) (M.slice (Rect.unit (s := s) o' sz i) h1) fullShare
    ((M.access (Rect.unit (s := s) o' sz i)).write (Elt F) f w Finset.univ)) $$ H
  rw [show (M.slice (Rect.unit (s := s) o' sz i) h1).view.read (Elt F) ((M.access (Rect.unit (s := s) o' sz i)).write (Elt F) f w Finset.univ) = w from e]
  iexact H

/-- A store as the kernel makes it: a load of the piece, whose value is not used, then the store. -/
theorem put {α : Type} {Q : α → sProp 𝕄} (h : o' = o) {w : (Rect.unit (s := s) o sz i).shape.Idx → Elt F e} (X : (Rect.unit (s := s) o sz i).shape.Idx → Elt F e) (hw : w = X)
    {hl : M.view.LoadsAt (Rect.unit (s := s) o' sz i').toLoadRect}
    {hx : (M.access (Rect.unit (s := s) o' sz i')).Stores Finset.univ}
    {hm : (Finset.univ : Finset (Rect.unit (s := s) o' sz i').shape.Idx) = Finset.univ ∨ ∀ a, (Rect.unit (s := s) o' sz i').stride a = 1}
    {k : PUnit → Prog (TpuEff nD τ sig (Elt F) Λ₀ .tc) α} :
    hold c (M.slice (Rect.unit (s := s) o sz i) h1)
      ⊢ iprop((has c (M.slice (Rect.unit (s := s) o sz i) h1) X -∗ wpc c (k ⟨⟩) Q)
          -∗ wpc c (.op (.load M (Rect.unit (s := s) o' sz i').toLoadRect hl) fun _ =>
              .op (.store M (Rect.unit (s := s) o' sz i') w Finset.univ hx hm) k) Q) := by
  subst hw
  unfold hold
  iintro ⟨%Y, H⟩ Hk
  iapply (load_own c h) $$ H
  iintro H
  ihave H := (has_hold c _ _) $$ H
  iapply (store_own c h) $$ H
  iexact Hk

end Local

section Dma

variable (c : Dev nD)

/-- A copy in flight on semaphore `q`: waiting for its `n` bytes yields `D`. -/
abbrev fly (q : DmaSem sig) (n : ℕ) (D : sProp 𝕄) : sProp 𝕄 := Transfers.Flight EC (c : Thread nD τ) (.dma q) () n D

/-- A copy within the device starts, -/
theorem copy_own {α : Type} {Q : α → sProp 𝕄} {sp sp' : Space} {s : Shape} {e : EltTy} {src : Memref sig .tc sp s e} {dst : Memref sig .tc sp' s e} {q : DmaSem sig}
    {X : s.Idx → Elt F e} {p : PosShare TreeShare} (n : ℕ) (hn : dst.view.dmaCredit = n) (h0 : 0 < n)
    {hsrc : src.view.WordExact} {hdst : dst.view.WordExact} {hsem : DmaTarget.Typed sp (.dma q) (DmaTarget.here dst : DmaTarget nD τ sig .tc sp' s e)}
    {k : PUnit → Prog (TpuEff nD τ sig (Elt F) Λ₀ .tc) α} :
    owns (c : Thread nD τ) src p X
      ⊢ iprop(hold c dst -∗ semVal ((c : Thread nD τ), .dma q) 0
          -∗ (fly c q n iprop(has c dst X ∗ owns (c : Thread nD τ) src p X) -∗ wpc c (k ⟨⟩) Q)
          -∗ wpc c (.op (.enqueueDma src (DmaTarget.here dst : DmaTarget nD τ sig .tc sp' s e) (.dma q) hsrc hdst hsem) k) Q) := by
  unfold hold
  iintro Hs ⟨%Y, Hd⟩ Hv Hk
  ihave H' := (unfold_owns c src p X) $$ Hs
  icases H' with ⟨%f, %hf, Hs⟩
  ihave H' := (unfold_owns c dst fullShare Y) $$ Hd
  icases H' with ⟨%g, %hg, Hd⟩
  subst hf
  iapply (Transfers.wp_dmaLocal EC 𝒱₀ (c : Thread nD τ) none (src := src) (dst := dst) (via := .same) (sm := .dma q) (fs := f) (fd := g)
    (Sd := dst.view.set) (q := p) () n hn h0 (subset_refl _)) $$ [Hs Hd Hv]
  · isplitl [Hs]; · iexact Hs
    isplitl [Hd] <;> iassumption
  iintro Hf
  iapply Hk
  iapply (Transfers.Flight_mono EC (c : Thread nD τ) ?_) $$ Hf
  iintro ⟨Hd, Hs⟩
  isplitl [Hd]
  · ihave H := (owns_intro (c : Thread nD τ) dst fullShare _) $$ Hd
    rw [View.read_write_univ]
    iexact H
  · iapply (owns_intro (c : Thread nD τ) src p f) $$ Hs

/-- and is waited for, `j` hops being left. -/
theorem wait_own {α : Type} {Q : α → sProp 𝕄} {sp sp' : Space} {s s' : Shape} {e e' : EltTy} {src : Memref sig .tc sp' s' e'} {dst : Memref sig .tc sp s e} {q q' : DmaSem sig}
    (hq : q' = q) (n j : ℕ) (hn : dst.view.dmaCredit = n) (hj : lev (.dma q) < 14 - j) {D : sProp 𝕄}
    {hsrc : src.view.WordExact} {hdst : dst.view.WordExact} {k : PUnit → Prog (TpuEff nD τ sig (Elt F) Λ₀ .tc) α} :
    levAts L lv
      ⊢ iprop(fly c q n D -∗ owing c (rem c j)
          -∗ (D -∗ semVal ((c : Thread nD τ), .dma q) 0 -∗ owing c (rem c j) -∗ wpc c (k ⟨⟩) Q)
          -∗ wpc c (.op (.waitDma2 q' src dst hsrc hdst) k) Q) := by
  subst hq
  unfold owing
  iintro Hl Hf ⟨%W, HO⟩ Hk
  iapply (Transfers.wp_waitLocalO EC 𝒱₀ (c : Thread nD τ) none () hn) $$ [Hf HO Hl]
  · isplitl [Hf]; · iexact Hf
    isplitl [HO]; · iexact HO
    iapply (mayWait (F := F) c (.dma q') j hj) $$ Hl
  iintro ⟨HD, Hv, HO⟩
  iapply Hk $$ HD Hv
  iexists _; iexact HO

end Dma

section Hop

variable (K : Dev nD × CK → ℕ) (c : Dev nD) (r : Fin 4) (s : Fin 3)

abbrev accQ (r : Fin 4) (s : Fin 4) : Memref sig .tc .vmem S512x512 .bf16 := (accS r s).squeeze S512x512 squeezes_S1x512x512_S512x512
abbrev comQ (r : Fin 4) (s : Fin 3) : Memref sig .tc .vmem S512x512 .bf16 := (comS r s).squeeze S512x512 squeezes_S1x512x512_S512x512

theorem comQ_credit : (comQ r s).view.dmaCredit = N := by revert r s; decide
theorem accQ_credit (s : Fin 4) : (accQ r s).view.dmaCredit = N := by revert r s; decide

omit [FloatOps F] in
/-- A slot is the same memory seen as a matrix. -/
theorem acc_pts (s : Fin 4) (f : Buf (Elt F) ((accS r s).view.loc (c : Thread nD τ))) :
    ((accQ r s).view.loc (c : Thread nD τ) ↦[(accQ r s).view.set]{fullShare} f : sProp 𝕄) = (accS r s).view.loc (c : Thread nD τ) ↦[(accS r s).view.set]{fullShare} f := by
  have e : (accQ r s).view.set = (accS r s).view.set := View.set_reshape _ _
  show ((accS r s).view.loc (c : Thread nD τ) ↦[(accQ r s).view.set]{fullShare} f : sProp 𝕄) = _
  rw [e]
omit [FloatOps F] in
theorem com_pts (f : Buf (Elt F) ((comS r s).view.loc (c : Thread nD τ))) :
    ((comQ r s).view.loc (c : Thread nD τ) ↦[(comQ r s).view.set]{fullShare} f : sProp 𝕄) = (comS r s).view.loc (c : Thread nD τ) ↦[(comS r s).view.set]{fullShare} f := by
  have e : (comQ r s).view.set = (comS r s).view.set := View.set_reshape _ _
  show ((comS r s).view.loc (c : Thread nD τ) ↦[(comQ r s).view.set]{fullShare} f : sProp 𝕄) = _
  rw [e]

omit [FloatOps F] in
/-- What lands in a slot is what was sent. -/
theorem landed (d : Dev nD) (f : Buf (Elt F) ((accQ r s.castSucc).view.loc (c : Thread nD τ))) (g : Buf (Elt F) ((comQ r s).view.loc (d : Thread nD τ))) :
    ((comQ r s).view.loc (d : Thread nD τ) ↦[(comQ r s).view.set]{fullShare}
        (comQ r s).view.write (Elt F) g ((accQ r s.castSucc).view.read (Elt F) f) Finset.univ : sProp 𝕄)
      ⊢ has d (comS r s) ((accS r s.castSucc).view.read (Elt F) f) := by
  have e : (comS r s).view.read (Elt F) ((comQ r s).view.write (Elt F) g ((accQ r s.castSucc).view.read (Elt F) f) Finset.univ)
      = (accS r s.castSucc).view.read (Elt F) f := by
    have h := View.read_write_univ (v := (comQ r s).view) (Val := Elt F) g ((accQ r s.castSucc).view.read (Elt F) f)
    funext x
    obtain ⟨y, rfl⟩ := (Shape.reshapeEquiv (squeezes_S1x512x512_S512x512.numel_eq)).surjective x
    exact congrFun h y
  rw [← e]
  exact (Entails.of_eq (com_pts d r s _)).trans (owns_intro (d : Thread nD τ) (comS r s) fullShare _)

/-- Hop `s` of ring `r` starts, `j` hops being left after it. -/
theorem send_step {α : Type} {Q : α → sProp 𝕄} {k : PUnit → Prog (TpuEff nD τ sig (Elt F) Λ₀ .tc) α}
    (s₄ : Fin 4) (i : ℕ) (h₄ : s₄ = s.castSucc) (hi : i = s.val) (j : ℕ) {n : Dev nD} {src dst : Memref sig .tc .vmem S512x512 .bf16} {sq rq : DmaSem sig}
    (hn : n = peer r c) (hs : src = accQ r s₄) (hd : dst = comQ r s) (hsq : sq = sendS r s) (hrq : rq = recvS r s)
    (hj : j + (4 * s.val + r.val) = 11) {hsc : (dst : Memref sig (Dev.tc n : Thread nD τ).2.kind .vmem S512x512 .bf16).view.ref.isScScratch = false}
    {hsrc : src.view.WordExact} {hdst : dst.view.WordExact}
    {hsem : DmaTarget.Typed .vmem (.dma rq) (.remote (Dev.tc n : Thread nD τ) dst (.dma sq) hsc)} :
    records m K
      ⊢ iprop(kit0 c r s -∗ has c (accS r s₄) (accAt m r i c) -∗ hold (peer r c) (comS r s) -∗ owing c (rem c (j + 1))
          -∗ (kit1 c r s -∗ owing c (rem c j) -∗ wpc c (k ⟨⟩) Q)
          -∗ wpc c (.op (.enqueueDma src (.remote (Dev.tc n : Thread nD τ) dst (.dma sq) hsc) (.dma rq) hsrc hdst hsem) k) Q) := by
  subst hn; subst hs; subst hd; subst hsq; subst hrq; subst h₄; subst hi
  unfold kit0 kit1 hold owing
  iintro #HR ⟨HaS, HaR, HtS, HtR, Hc⟩ Hsrc ⟨%Y, Hdst⟩ ⟨%W, HO⟩ Hk
  ihave H' := (unfold_owns c (accS r s.castSucc) fullShare _) $$ Hsrc
  icases H' with ⟨%f, %hf, Hsrc⟩
  ihave H' := (unfold_owns (peer r c) (comS r s) fullShare _) $$ Hdst
  icases H' with ⟨%g, %hg, Hdst⟩
  ihave Hi1 := (inv_at m K (c, some (false, r, s))) $$ HR
  ihave Hi2 := (inv_at m K (peer r c, some (true, r, s))) $$ HR
  ihave Hr1 := (reached_at m K (c, some (false, r, s))) $$ HR
  ihave Hr2 := (reached_at m K (peer r c, some (true, r, s))) $$ HR
  iapply (Rounds.wp_send_pointsTo 𝒱₀ ER (ringRd m) (c : Thread nD τ) none (src := accQ r s.castSucc) (c' := (peer r c : Thread nD τ)) (dst := comQ r s)
    (sS := .dma (sendS r s)) (sem := .dma (recvS r s))
    (κ₁ := K (c, some (false, r, s))) (κ₂ := K (peer r c, some (true, r, s)))
    (r₁ := 0) (r₂ := 0) (d₁ := false) (d₂ := false) (fs := f) (fd := g) (q := fullShare)
    (by rw [duties_send]; exact Finset.mem_singleton_self _) (by rw [duties_recv]; exact Finset.mem_singleton_self _)
    () () N (comQ_credit r s) (amount_send m c r s false) (amount_recv m (peer r c) r s false) (rem c j) (rem_step c j r s hj) (W := W)
    (by
      rw [payload_send, ← hf]
      exact (Entails.of_eq (acc_pts c r s.castSucc f)).trans (owns_intro (c : Thread nD τ) (accS r s.castSucc) fullShare f))
    (by
      rw [payload_recv, frm_peer, ← hf]
      exact landed c r s (peer r c) f g)) $$ [Hsrc Hdst HO HtS HtR Hi1 Hi2 Hr1 Hr2]
  · isplitl [Hi1]; · iexact Hi1
    isplitl [Hi2]; · iexact Hi2
    isplitl [Hsrc]; · iapply (Entails.of_eq (acc_pts c r s.castSucc f).symm) $$ Hsrc
    isplitl [Hdst]; · iapply (Entails.of_eq (com_pts (peer r c) r s g).symm) $$ Hdst
    isplitl [HO]; · iexact HO
    isplitl [HtS]; · iexact HtS
    isplitl [Hr1]; · iexact Hr1
    isplitl [HtR]; · iexact HtR
    iexact Hr2
  iintro ⟨HcS, HO⟩
  iapply Hk $$ [HaS HaR Hc HcS]
  · isplitl [HaS]; · iexact HaS
    isplitl [HaR]; · iexact HaR
    isplitl [HcS]; · iexact HcS
    iexact Hc
  iexists W; iexact HO

/-- The wait for the send of hop `s` of ring `r`: the device's own slot is back. -/
theorem wait_send {α : Type} {Q : α → sProp 𝕄} {k : PUnit → Prog (TpuEff nD τ sig (Elt F) Λ₀ .tc) α}
    (s₄ : Fin 4) (i : ℕ) (h₄ : s₄ = s.castSucc) (hi : i = s.val) (j : ℕ) {sp' : Space} {t' : Shape} {e' : EltTy} {src : Memref sig .tc sp' t' e'} {dst : Memref sig .tc .vmem S512x512 .bf16} {q : DmaSem sig}
    (hq : q = sendS r s) (hd : dst = accQ r s₄) (hj : j < 14)
    {hsrc : src.view.WordExact} {hdst : dst.view.WordExact} :
    iprop(levAts L lv ∗ records m K)
      ⊢ iprop(kit1 c r s -∗ owing c (rem c j)
          -∗ (kit2 c r s -∗ has c (accS r s₄) (accAt m r i c) -∗ owing c (rem c j) -∗ wpc c (k ⟨⟩) Q)
          -∗ wpc c (.op (.waitDma2 q src dst hsrc hdst) k) Q) := by
  subst hq; subst h₄; subst hi; subst hd
  have hn := accQ_credit r s.castSucc
  unfold kit1 kit2 owing
  iintro ⟨Hl, #HR⟩ ⟨HaS, HaR, HcS, HcR⟩ ⟨%W, HO⟩ Hk
  ihave #Hi1 := (inv_at m K (c, some (false, r, s))) $$ HR
  iapply (Rounds.wp_wait_rest_token 𝒱₀ ER (ringRd m) (c : Thread nD τ) none (κ := K (c, some (false, r, s)))
      (wpE_waitDma2_eq 𝒱₀ (c : Thread nD τ) none Set.univ) (Set.mem_univ _) () (O := rem c j) (W := W) (R := 0) (m := 0) (T := ∅)
      (by rw [Nat.zero_add]; exact hn.trans (expect_send m c r s).symm)) $$ [HcS HO HaS Hl]
  · isplitr; · iexact Hi1
    isplitl [HcS]; · rw [hn]; iexact HcS
    isplitl [HO]; · iexact HO
    isplitl [Hl]; · iapply (mayWait (F := F) c _ j (by rw [lev_send]; omega)) $$ Hl
    iexact HaS
  iintro ⟨HO, HaS, -, Hpay⟩
  ihave Hpay := (Entails.of_eq (rest_send m c r s)) $$ Hpay
  imod (Rounds.cell_close ER (ringRd m) (Set.mem_univ (K (c, some (false, r, s)))) (fun h => h) (R := 0 + 1) (duties_later m (sendCell c r s))) $$ [HaS] with Hz
  · isplitr; · iexact Hi1
    iexact HaS
  iapply Hk $$ [Hz HaR HcR] Hpay
  · isplitl [Hz]; · iexact Hz
    isplitl [HaR] <;> iassumption
  iexists _; iexact HO

/-- The wait for the landing of hop `s` of ring `r`: what the device before it in the ring sent. -/
theorem wait_recv {α : Type} {Q : α → sProp 𝕄} {k : PUnit → Prog (TpuEff nD τ sig (Elt F) Λ₀ .tc) α}
    (i : ℕ) (hi : i = s.val) (j : ℕ) {sp' : Space} {t' : Shape} {e' : EltTy} {src : Memref sig .tc sp' t' e'} {dst : Memref sig .tc .vmem S512x512 .bf16} {q : DmaSem sig}
    (hq : q = recvS r s) (hd : dst = comQ r s) (hj : 2 + (4 * s.val + r.val) < 14 - j)
    {hsrc : src.view.WordExact} {hdst : dst.view.WordExact} :
    iprop(levAts L lv ∗ records m K)
      ⊢ iprop(kit2 c r s -∗ owing c (rem c j)
          -∗ (kit3 c r s -∗ has c (comS r s) (accAt m r i (frm r c)) -∗ owing c (rem c j) -∗ wpc c (k ⟨⟩) Q)
          -∗ wpc c (.op (.waitDma2 q src dst hsrc hdst) k) Q) := by
  subst hq; subst hi; subst hd
  have hn := comQ_credit r s
  unfold kit2 kit3 owing
  iintro ⟨Hl, #HR⟩ ⟨HzS, HaR, HcR⟩ ⟨%W, HO⟩ Hk
  ihave #Hi1 := (inv_at m K (c, some (true, r, s))) $$ HR
  iapply (Rounds.wp_wait_rest_token 𝒱₀ ER (ringRd m) (c : Thread nD τ) none (κ := K (c, some (true, r, s)))
      (wpE_waitDma2_eq 𝒱₀ (c : Thread nD τ) none Set.univ) (Set.mem_univ _) () (O := rem c j) (W := W) (R := 0) (m := 0) (T := ∅)
      (by rw [Nat.zero_add]; exact hn.trans (expect_recv m c r s).symm)) $$ [HcR HO HaR Hl]
  · isplitr; · iexact Hi1
    isplitl [HcR]; · rw [hn]; iexact HcR
    isplitl [HO]; · iexact HO
    isplitl [Hl]; · iapply (mayWait (F := F) c _ j (by rw [lev_recv]; omega)) $$ Hl
    iexact HaR
  iintro ⟨HO, HaR, -, Hpay⟩
  ihave Hpay := (Entails.of_eq (rest_recv m c r s)) $$ Hpay
  imod (Rounds.cell_close ER (ringRd m) (Set.mem_univ (K (c, some (true, r, s)))) (fun h => h) (R := 0 + 1) (duties_later m (recvCell c r s))) $$ [HaR] with Hz
  · isplitr; · iexact Hi1
    iexact HaR
  iapply Hk $$ [Hz HzS] Hpay
  · isplitl [HzS] <;> iassumption
  iexists _; iexact HO

end Hop

section Barrier

variable (K : Dev nD × CK → ℕ) (c : Dev nD)

/-- The first signal, to the previous device: it may write the landing slots of rings 0 and 2. -/
theorem signal_prv {α : Type} {Q : α → sProp 𝕄} {k : PUnit → Prog (TpuEff nD τ sig (Elt F) Λ₀ .tc) α}
    {n : Dev nD} (hn : n = prv c) :
    records m K
      ⊢ iprop(dutyTok ER (barCell (prv c)) 0 true -∗ landing c 0 -∗ landing c 2 -∗ owing c (owed₀ c)
          -∗ (owing c (owed₁ c) -∗ wpc c (k ⟨⟩) Q)
          -∗ wpc c (.op (.semSignal (Dev.tc n : Thread nD τ) barS 1) k) Q) := by
  subst hn
  unfold owing
  iintro #HR Ht H0 H2 ⟨%W, HO⟩ Hk
  ihave Hi := (inv_at m K (prv c, none)) $$ HR
  ihave Hr := (reached_at m K (prv c, none)) $$ HR
  iapply (Rounds.wp_signal 𝒱₀ ER (ringRd m) (c : Thread nD τ) none (dst := (prv c : Thread nD τ)) (κ := K (prv c, none))
      (d := true) (by rw [duties_bar]; exact Finset.mem_univ _) (amount_bar m (prv c) true) () (owed₁ c) rfl)
    $$ [HO Ht H0 H2 Hi Hr]
  · isplitl [Hi]; · iexact Hi
    isplitl [HO]; · iexact HO
    isplitl [Ht]; · iexact Ht
    isplitl [H0 H2]
    · rw [payload_bar]; unfold barPay; rw [if_pos rfl, nxt_prv]
      isplitl [H0] <;> iassumption
    iexact Hr
  iintro HO
  iapply Hk
  iexists W; iexact HO

/-- The second, to the next device: it may write the landing slots of rings 1 and 3. -/
theorem signal_nxt {α : Type} {Q : α → sProp 𝕄} {k : PUnit → Prog (TpuEff nD τ sig (Elt F) Λ₀ .tc) α}
    {n : Dev nD} (hn : n = nxt c) :
    records m K
      ⊢ iprop(dutyTok ER (barCell (nxt c)) 0 false -∗ landing c 1 -∗ landing c 3 -∗ owing c (owed₁ c)
          -∗ (owing c (rem c 12) -∗ wpc c (k ⟨⟩) Q)
          -∗ wpc c (.op (.semSignal (Dev.tc n : Thread nD τ) barS 1) k) Q) := by
  subst hn
  unfold owing
  iintro #HR Ht H0 H2 ⟨%W, HO⟩ Hk
  ihave Hi := (inv_at m K (nxt c, none)) $$ HR
  ihave Hr := (reached_at m K (nxt c, none)) $$ HR
  iapply (Rounds.wp_signal 𝒱₀ ER (ringRd m) (c : Thread nD τ) none (dst := (nxt c : Thread nD τ)) (κ := K (nxt c, none))
      (d := false) (by rw [duties_bar]; exact Finset.mem_univ _) (amount_bar m (nxt c) false) () (rem c 12) rfl)
    $$ [HO Ht H0 H2 Hi Hr]
  · isplitl [Hi]; · iexact Hi
    isplitl [HO]; · iexact HO
    isplitl [Ht]; · iexact Ht
    isplitl [H0 H2]
    · rw [payload_bar]; unfold barPay; rw [if_neg Bool.false_ne_true, prv_nxt]
      isplitl [H0] <;> iassumption
    iexact Hr
  iintro HO
  iapply Hk
  iexists W; iexact HO

/-- The wait for both neighbours. -/
theorem wait_bar {α : Type} {Q : α → sProp 𝕄} {k : PUnit → Prog (TpuEff nD τ sig (Elt F) Λ₀ .tc) α} :
    iprop(levAts L lv ∗ records m K)
      ⊢ iprop(atPos ER (barCell c) 0 ∅ 0 -∗ cred (tallyAt (barCell c) () 2) -∗ owing c (rem c 12)
          -∗ (semVal (barCell c) 0 -∗ landing (peer 0 c) 0 -∗ landing (peer 1 c) 1 -∗ landing (peer 2 c) 2 -∗ landing (peer 3 c) 3
              -∗ owing c (rem c 12) -∗ wpc c (k ⟨⟩) Q)
          -∗ wpc c (.op (.semWait barS 2) k) Q) := by
  rw [show peer 0 c = nxt c from rfl, show peer 1 c = prv c from rfl, show peer 2 c = nxt c from rfl, show peer 3 c = prv c from rfl]
  unfold owing
  iintro ⟨Hl, #HR⟩ Hat Hc ⟨%W, HO⟩ Hk
  ihave #Hi := (inv_at m K (c, none)) $$ HR
  iapply (Rounds.wp_wait_rest_token 𝒱₀ ER (ringRd m) (c : Thread nD τ) none (κ := K (c, none))
      (wpE_semWait_eq 𝒱₀ (c : Thread nD τ) none Set.univ) (Set.mem_univ _) () (O := rem c 12) (W := W) (R := 0) (m := 0) (T := ∅)
      (by rw [Nat.zero_add]; exact (expect_bar m c).symm)) $$ [Hc HO Hat Hl]
  · isplitr; · iexact Hi
    isplitl [Hc]; · iexact Hc
    isplitl [HO]; · iexact HO
    isplitl [Hl]; · iapply (mayWait (F := F) c _ 12 (by decide)) $$ Hl
    iexact Hat
  iintro ⟨HO, Hat, -, Hpay⟩
  ihave Hp := (Entails.of_eq (rest_bar m c)) $$ Hpay
  imod (Rounds.cell_close ER (ringRd m) (Set.mem_univ (K (c, none))) (fun h => h) (R := 0 + 1) (duties_later m (barCell c))) $$ [Hat] with Hz
  · isplitr; · iexact Hi
    iexact Hat
  unfold barPay
  rw [if_neg Bool.false_ne_true, if_pos rfl]
  icases Hp with ⟨⟨H1, H3⟩, H0, H2⟩
  iapply Hk $$ Hz H0 H1 H2 H3
  iexists _; iexact HO

end Barrier

end Cert.KernelIdeal.Rings

end
-- ==== Proof.Moves.lean ====
/-
# Moves between named pieces

The steps of `Steps`, stated for the pieces the body works on: chunks of `x`, lanes of `w` and of the result, slots of
the accumulators and of the landing buffers.
-/
module

public import proofs.«01_k».proof.Proof.Steps

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pieces, and the semaphores of the copies within the device -/

abbrev xvS (c : Dev nD) (t : Fin 4) : Memref sig .tc .vmem S512x512 .f32 := xvM.slice (xR c t) (fun _ => rfl)
abbrev xS (c : Dev nD) (t : Fin 4) : Memref sig .tc .hbm S512x512 .f32 := xM.slice (xR c t) (fun _ => rfl)
abbrev wvS (l : Fin 4) : Memref sig .tc .vmem S512x512 .f32 := wvM.slice (lane l) (fun _ => rfl)
abbrev wS (l : Fin 4) : Memref sig .tc .hbm S512x512 .f32 := wM.slice (lane l) (fun _ => rfl)
abbrev wbS (l : Fin 4) : Memref sig .tc .vmem S512x512 .bf16 := wbM.slice (lane l) (fun _ => rfl)
abbrev ovS (l : Fin 4) : Memref sig .tc .vmem S512x512 .bf16 := ovM.slice (lane l) (fun _ => rfl)
abbrev oS (l : Fin 4) : Memref sig .tc .hbm S512x512 .bf16 := oM.slice (lane l) (fun _ => rfl)

/-- The semaphore of the copy of chunk `t` of `x`, -/
def xQ (t : Fin 4) : DmaSem sig := ⟨t.val, by have := t.isLt; show t.val < 36; omega⟩
/-- of lane `l` of `w`, -/
def wQ (l : Fin 4) : DmaSem sig := ⟨4 + (laneOf l).val, by have := (laneOf l).isLt; show 4 + (laneOf l).val < 36; omega⟩
/-- and of the lane of the result which ring `r` computes. -/
def oQ (r : Fin 4) : DmaSem sig := ⟨8 + r.val, by have := r.isLt; show 8 + r.val < 36; omega⟩

theorem lev_xQ (t : Fin 4) : lev (.dma (xQ t)) < 2 := by revert t; decide
theorem lev_wQ (t : Fin 4) : lev (.dma (wQ t)) < 2 := by revert t; decide
theorem lev_oQ (t : Fin 4) : lev (.dma (oQ t)) < 2 := by revert t; decide

/-- What a copy of a piece of an argument credits. -/
abbrev NF : ℕ := (wvS 0).view.dmaCredit
theorem NF_pos : 0 < NF := View.dmaCredit_pos _ (by decide)
theorem oS_credit (l : Fin 4) : (oS l).view.dmaCredit = N := by revert l; decide

theorem x_credit {o' : Fin S2048x512.rank → ℕ} {i' : ∀ a, o' a + S512x512.size a ≤ S2048x512.size a} {h2 : ∀ a, (Rect.unit (s := S2048x512) o' S512x512.size i').stride a = 1} :
    (xvM.slice (Rect.unit (s := S2048x512) o' S512x512.size i') h2).view.dmaCredit = NF := rfl
theorem w_credit {o' : Fin S512x2048.rank → ℕ} {i' : ∀ a, o' a + S512x512.size a ≤ S512x2048.size a} {h2 : ∀ a, (Rect.unit (s := S512x2048) o' S512x512.size i').stride a = 1} :
    (wvM.slice (Rect.unit (s := S512x2048) o' S512x512.size i') h2).view.dmaCredit = NF := rfl
theorem o_credit {o' : Fin S512x2048.rank → ℕ} {i' : ∀ a, o' a + S512x512.size a ≤ S512x2048.size a} {h2 : ∀ a, (Rect.unit (s := S512x2048) o' S512x512.size i').stride a = 1} :
    (oM.slice (Rect.unit (s := S512x2048) o' S512x512.size i') h2).view.dmaCredit = N := oS_credit 0

/-- The copies in flight. -/
abbrev flyX (c : Dev nD) (t : Fin 4) : sProp 𝕄 := fly c (xQ t) NF iprop(has c (xvS c t) (xc m c t) ∗ has c (xS c t) (xc m c t))
abbrev flyW (c : Dev nD) (l : Fin 4) : sProp 𝕄 := fly c (wQ l) NF iprop(has c (wvS l) (wc m c l) ∗ has c (wS l) (wc m c l))
abbrev flyO (c : Dev nD) (r : Fin 4) : sProp 𝕄 :=
  fly c (oQ r) N iprop(has c (oS (laneOf r)) (outLane m r c) ∗ has c (ovS (laneOf r)) (outLane m r c))

section Piece

variable (c : Dev nD)

/-- A program which has ended. -/
theorem wpc_ret {α : Type} {Q : α → sProp 𝕄} (a : α) : Q a ⊢ wpc c (Prog.ret a) Q := by
  show Q a ⊢ wp frame (wpE (defs₀ (F := F)) 𝒱₀ (c : Thread nD τ) none) Set.univ (Prog.ret a) Q
  rw [wp_ret]
  iintro H
  imodintro
  iexact H

theorem copy_piece {α : Type} {Q : α → sProp 𝕄} {sp sp' : Space} {s : Shape} {e : EltTy} (src : Memref sig .tc sp s e) (dst : Memref sig .tc sp' s e)
    {o o' o'' sz : Fin s.rank → ℕ} {i : ∀ a, o a + sz a ≤ s.size a} {i' : ∀ a, o' a + sz a ≤ s.size a} {i'' : ∀ a, o'' a + sz a ≤ s.size a}
    {h1 h1' : ∀ a, (Rect.unit (s := s) o sz i).stride a = 1} {h2 : ∀ a, (Rect.unit (s := s) o' sz i').stride a = 1} {h3 : ∀ a, (Rect.unit (s := s) o'' sz i'').stride a = 1}
    (h' : o' = o) (h'' : o'' = o) {q q' : DmaSem sig} (hq : q' = q) (n : ℕ) (hn : (dst.slice (Rect.unit (s := s) o sz i) h1').view.dmaCredit = n) (h0 : 0 < n)
    {X : (Rect.unit (s := s) o sz i).shape.Idx → Elt F e}
    {hsrc : (src.slice (Rect.unit (s := s) o' sz i') h2).view.WordExact} {hdst : (dst.slice (Rect.unit (s := s) o'' sz i'') h3).view.WordExact}
    {hsem : DmaTarget.Typed sp (.dma q') (DmaTarget.here (dst.slice (Rect.unit (s := s) o'' sz i'') h3) : DmaTarget nD τ sig .tc sp' (Rect.unit (s := s) o'' sz i'').shape e)}
    {k : PUnit → Prog (TpuEff nD τ sig (Elt F) Λ₀ .tc) α} :
    has c (src.slice (Rect.unit (s := s) o sz i) h1) X
      ⊢ iprop(hold c (dst.slice (Rect.unit (s := s) o sz i) h1') -∗ semVal ((c : Thread nD τ), .dma q) 0
          -∗ (fly c q n iprop(has c (dst.slice (Rect.unit (s := s) o sz i) h1') X ∗ has c (src.slice (Rect.unit (s := s) o sz i) h1) X) -∗ wpc c (k ⟨⟩) Q)
          -∗ wpc c (.op (.enqueueDma (src.slice (Rect.unit (s := s) o' sz i') h2)
              (DmaTarget.here (dst.slice (Rect.unit (s := s) o'' sz i'') h3) : DmaTarget nD τ sig .tc sp' (Rect.unit (s := s) o'' sz i'').shape e) (.dma q') hsrc hdst hsem) k) Q) := by
  subst h'; subst h''; subst hq
  exact copy_own c n hn h0
/-- A chunk of `x` starts to be copied in; so does a lane of `w`, and a lane of the result out. -/
theorem copy_x {α : Type} {Q : α → sProp 𝕄} (t : Fin 4) {o' o'' : Fin S2048x512.rank → ℕ}
    {i' : ∀ a, o' a + S512x512.size a ≤ S2048x512.size a} {i'' : ∀ a, o'' a + S512x512.size a ≤ S2048x512.size a}
    (h' : o' = k0_off1 c (k0_off1_at t)) (h'' : o'' = k0_off1 c (k0_off1_at t)) {q' : DmaSem sig} (hq : q' = xQ t)
    {h2 : ∀ a, (Rect.unit (s := S2048x512) o' S512x512.size i').stride a = 1} {h3 : ∀ a, (Rect.unit (s := S2048x512) o'' S512x512.size i'').stride a = 1}
    {hsrc : (xM.slice (Rect.unit (s := S2048x512) o' S512x512.size i') h2).view.WordExact} {hdst : (xvM.slice (Rect.unit (s := S2048x512) o'' S512x512.size i'') h3).view.WordExact}
    {hsem : DmaTarget.Typed .hbm (.dma q') (DmaTarget.here (xvM.slice (Rect.unit (s := S2048x512) o'' S512x512.size i'') h3) : DmaTarget nD τ sig .tc .vmem (Rect.unit (s := S2048x512) o'' S512x512.size i'').shape .f32)}
    {k : PUnit → Prog (TpuEff nD τ sig (Elt F) Λ₀ .tc) α} :
    has c (xS c t) (xc m c t)
      ⊢ iprop(hold c (xvS c t) -∗ semVal ((c : Thread nD τ), .dma (xQ t)) 0 -∗ (flyX m c t -∗ wpc c (k ⟨⟩) Q)
          -∗ wpc c (.op (.enqueueDma (xM.slice (Rect.unit (s := S2048x512) o' S512x512.size i') h2)
              (DmaTarget.here (xvM.slice (Rect.unit (s := S2048x512) o'' S512x512.size i'') h3) : DmaTarget nD τ sig .tc .vmem (Rect.unit (s := S2048x512) o'' S512x512.size i'').shape .f32) (.dma q') hsrc hdst hsem) k) Q) :=
  copy_piece c xM xvM h' h'' hq NF rfl NF_pos

theorem copy_w {α : Type} {Q : α → sProp 𝕄} (l : Fin 4) {o' o'' : Fin S512x2048.rank → ℕ}
    {i' : ∀ a, o' a + S512x512.size a ≤ S512x2048.size a} {i'' : ∀ a, o'' a + S512x512.size a ≤ S512x2048.size a}
    (h' : o' = ![0, 512 * (l).val]) (h'' : o'' = ![0, 512 * (l).val]) {q' : DmaSem sig} (hq : q' = wQ l)
    {h2 : ∀ a, (Rect.unit (s := S512x2048) o' S512x512.size i').stride a = 1} {h3 : ∀ a, (Rect.unit (s := S512x2048) o'' S512x512.size i'').stride a = 1}
    {hsrc : (wM.slice (Rect.unit (s := S512x2048) o' S512x512.size i') h2).view.WordExact} {hdst : (wvM.slice (Rect.unit (s := S512x2048) o'' S512x512.size i'') h3).view.WordExact}
    {hsem : DmaTarget.Typed .hbm (.dma q') (DmaTarget.here (wvM.slice (Rect.unit (s := S512x2048) o'' S512x512.size i'') h3) : DmaTarget nD τ sig .tc .vmem (Rect.unit (s := S512x2048) o'' S512x512.size i'').shape .f32)}
    {k : PUnit → Prog (TpuEff nD τ sig (Elt F) Λ₀ .tc) α} :
    has c (wS (l)) (wc m c l)
      ⊢ iprop(hold c (wvS (l)) -∗ semVal ((c : Thread nD τ), .dma (wQ l)) 0 -∗ (flyW m c l -∗ wpc c (k ⟨⟩) Q)
          -∗ wpc c (.op (.enqueueDma (wM.slice (Rect.unit (s := S512x2048) o' S512x512.size i') h2)
              (DmaTarget.here (wvM.slice (Rect.unit (s := S512x2048) o'' S512x512.size i'') h3) : DmaTarget nD τ sig .tc .vmem (Rect.unit (s := S512x2048) o'' S512x512.size i'').shape .f32) (.dma q') hsrc hdst hsem) k) Q) :=
  copy_piece c wM wvM h' h'' hq NF rfl NF_pos

theorem copy_o {α : Type} {Q : α → sProp 𝕄} (r l : Fin 4) (hl : l = laneOf r) {o' o'' : Fin S512x2048.rank → ℕ}
    {i' : ∀ a, o' a + S512x512.size a ≤ S512x2048.size a} {i'' : ∀ a, o'' a + S512x512.size a ≤ S512x2048.size a}
    (h' : o' = ![0, 512 * l.val]) (h'' : o'' = ![0, 512 * l.val]) {q' : DmaSem sig} (hq : q' = oQ r)
    {h2 : ∀ a, (Rect.unit (s := S512x2048) o' S512x512.size i').stride a = 1} {h3 : ∀ a, (Rect.unit (s := S512x2048) o'' S512x512.size i'').stride a = 1}
    {hsrc : (ovM.slice (Rect.unit (s := S512x2048) o' S512x512.size i') h2).view.WordExact} {hdst : (oM.slice (Rect.unit (s := S512x2048) o'' S512x512.size i'') h3).view.WordExact}
    {hsem : DmaTarget.Typed .vmem (.dma q') (DmaTarget.here (oM.slice (Rect.unit (s := S512x2048) o'' S512x512.size i'') h3) : DmaTarget nD τ sig .tc .hbm (Rect.unit (s := S512x2048) o'' S512x512.size i'').shape .bf16)}
    {k : PUnit → Prog (TpuEff nD τ sig (Elt F) Λ₀ .tc) α} :
    has c (ovS l) (outLane m r c)
      ⊢ iprop(hold c (oS l) -∗ semVal ((c : Thread nD τ), .dma (oQ r)) 0 -∗ (flyO m c r -∗ wpc c (k ⟨⟩) Q)
          -∗ wpc c (.op (.enqueueDma (ovM.slice (Rect.unit (s := S512x2048) o' S512x512.size i') h2)
              (DmaTarget.here (oM.slice (Rect.unit (s := S512x2048) o'' S512x512.size i'') h3) : DmaTarget nD τ sig .tc .hbm (Rect.unit (s := S512x2048) o'' S512x512.size i'').shape .bf16) (.dma q') hsrc hdst hsem) k) Q) := by
  subst hl
  exact copy_piece c ovM oM h' h'' hq N (oS_credit (laneOf r)) N_pos

/-- The waits for these copies, `j` hops being left. -/
theorem wait_x {α : Type} {Q : α → sProp 𝕄} (t : Fin 4) (j : ℕ) (hj : j ≤ 12) {o' : Fin S2048x512.rank → ℕ} {i' : ∀ a, o' a + S512x512.size a ≤ S2048x512.size a}
    {q' : DmaSem sig} (hq : q' = xQ t) {h2 : ∀ a, (Rect.unit (s := S2048x512) o' S512x512.size i').stride a = 1}
    {sp : Space} {s' : Shape} {e' : EltTy} {src : Memref sig .tc sp s' e'} {hsrc : src.view.WordExact} {hdst : (xvM.slice (Rect.unit (s := S2048x512) o' S512x512.size i') h2).view.WordExact}
    {k : PUnit → Prog (TpuEff nD τ sig (Elt F) Λ₀ .tc) α} :
    levAts L lv
      ⊢ iprop(flyX m c t -∗ owing c (rem c j)
          -∗ (iprop(has c (xvS c t) (xc m c t) ∗ has c (xS c t) (xc m c t)) -∗ semVal ((c : Thread nD τ), .dma (xQ t)) 0 -∗ owing c (rem c j) -∗ wpc c (k ⟨⟩) Q)
          -∗ wpc c (.op (.waitDma2 q' src (xvM.slice (Rect.unit (s := S2048x512) o' S512x512.size i') h2) hsrc hdst) k) Q) :=
  wait_own c (dst := xvM.slice (Rect.unit (s := S2048x512) o' S512x512.size i') h2) hq NF j x_credit (lt_of_lt_of_le (lev_xQ t) (by omega))

theorem wait_w {α : Type} {Q : α → sProp 𝕄} (l : Fin 4) (j : ℕ) (hj : j ≤ 12) {o' : Fin S512x2048.rank → ℕ} {i' : ∀ a, o' a + S512x512.size a ≤ S512x2048.size a}
    {q' : DmaSem sig} (hq : q' = wQ l) {h2 : ∀ a, (Rect.unit (s := S512x2048) o' S512x512.size i').stride a = 1}
    {sp : Space} {s' : Shape} {e' : EltTy} {src : Memref sig .tc sp s' e'} {hsrc : src.view.WordExact} {hdst : (wvM.slice (Rect.unit (s := S512x2048) o' S512x512.size i') h2).view.WordExact}
    {k : PUnit → Prog (TpuEff nD τ sig (Elt F) Λ₀ .tc) α} :
    levAts L lv
      ⊢ iprop(flyW m c l -∗ owing c (rem c j)
          -∗ (iprop(has c (wvS l) (wc m c l) ∗ has c (wS l) (wc m c l)) -∗ semVal ((c : Thread nD τ), .dma (wQ l)) 0 -∗ owing c (rem c j) -∗ wpc c (k ⟨⟩) Q)
          -∗ wpc c (.op (.waitDma2 q' src (wvM.slice (Rect.unit (s := S512x2048) o' S512x512.size i') h2) hsrc hdst) k) Q) :=
  wait_own c (dst := wvM.slice (Rect.unit (s := S512x2048) o' S512x512.size i') h2) hq NF j w_credit (lt_of_lt_of_le (lev_wQ l) (by omega))

theorem wait_o {α : Type} {Q : α → sProp 𝕄} (r l : Fin 4) (hl : l = laneOf r) (j : ℕ) (hj : j ≤ 12) {o' : Fin S512x2048.rank → ℕ} {i' : ∀ a, o' a + S512x512.size a ≤ S512x2048.size a}
    {q' : DmaSem sig} (hq : q' = oQ r) {h2 : ∀ a, (Rect.unit (s := S512x2048) o' S512x512.size i').stride a = 1}
    {sp : Space} {s' : Shape} {e' : EltTy} {src : Memref sig .tc sp s' e'} {hsrc : src.view.WordExact} {hdst : (oM.slice (Rect.unit (s := S512x2048) o' S512x512.size i') h2).view.WordExact}
    {k : PUnit → Prog (TpuEff nD τ sig (Elt F) Λ₀ .tc) α} :
    levAts L lv
      ⊢ iprop(flyO m c r -∗ owing c (rem c j)
          -∗ (iprop(has c (oS l) (outLane m r c) ∗ has c (ovS l) (outLane m r c)) -∗ semVal ((c : Thread nD τ), .dma (oQ r)) 0 -∗ owing c (rem c j) -∗ wpc c (k ⟨⟩) Q)
          -∗ wpc c (.op (.waitDma2 q' src (oM.slice (Rect.unit (s := S512x2048) o' S512x512.size i') h2) hsrc hdst) k) Q) := by
  subst hl
  exact wait_own c (dst := oM.slice (Rect.unit (s := S512x2048) o' S512x512.size i') h2) hq N j o_credit (lt_of_lt_of_le (lev_oQ r) (by omega))

/-- Loads and stores of a lane of a buffer, of a chunk of `x`, and of a slot. -/
theorem load_lane {α : Type} {Q : α → sProp 𝕄} {e : EltTy} (M : Memref sig .tc .vmem S512x2048 e) (l : Fin 4) {o' : Fin S512x2048.rank → ℕ}
    (h : o' = ![0, 512 * l.val]) {i' : ∀ a, o' a + S512x512.size a ≤ S512x2048.size a} {hl : M.view.LoadsAt (Rect.unit (s := S512x2048) o' S512x512.size i').toLoadRect}
    {X : S512x512.Idx → Elt F e} {k : (S512x512.Idx → Elt F e) → Prog (TpuEff nD τ sig (Elt F) Λ₀ .tc) α} :
    has c (M.slice (lane l) (fun _ => rfl)) X
      ⊢ iprop((has c (M.slice (lane l) (fun _ => rfl)) X -∗ wpc c (k X) Q)
          -∗ wpc c (.op (.load M (Rect.unit (s := S512x2048) o' S512x512.size i').toLoadRect hl) k) Q) :=
  load_own c h
theorem put_lane {α : Type} {Q : α → sProp 𝕄} {e : EltTy} (M : Memref sig .tc .vmem S512x2048 e) (l : Fin 4) {o' : Fin S512x2048.rank → ℕ}
    (h : o' = ![0, 512 * l.val]) {i' : ∀ a, o' a + S512x512.size a ≤ S512x2048.size a} {hl : M.view.LoadsAt (Rect.unit (s := S512x2048) o' S512x512.size i').toLoadRect}
    {w : S512x512.Idx → Elt F e} (X : S512x512.Idx → Elt F e) (hw : w = X)
    {hx : (M.access (Rect.unit (s := S512x2048) o' S512x512.size i')).Stores Finset.univ}
    {hm : (Finset.univ : Finset (Rect.unit (s := S512x2048) o' S512x512.size i').shape.Idx) = Finset.univ ∨ ∀ a, (Rect.unit (s := S512x2048) o' S512x512.size i').stride a = 1}
    {k : PUnit → Prog (TpuEff nD τ sig (Elt F) Λ₀ .tc) α} :
    hold c (M.slice (lane l) (fun _ => rfl))
      ⊢ iprop((has c (M.slice (lane l) (fun _ => rfl)) X -∗ wpc c (k ⟨⟩) Q)
          -∗ wpc c (.op (.load M (Rect.unit (s := S512x2048) o' S512x512.size i').toLoadRect hl) fun _ =>
              .op (.store M (Rect.unit (s := S512x2048) o' S512x512.size i') w Finset.univ hx hm) k) Q) :=
  put c h X hw
theorem load_x {α : Type} {Q : α → sProp 𝕄} (t : Fin 4) {o' : Fin S2048x512.rank → ℕ}
    (h : o' = k0_off1 c (k0_off1_at t)) {i' : ∀ a, o' a + S512x512.size a ≤ S2048x512.size a} {hl : xvM.view.LoadsAt (Rect.unit (s := S2048x512) o' S512x512.size i').toLoadRect}
    {X : S512x512.Idx → Elt F .f32} {k : (S512x512.Idx → Elt F .f32) → Prog (TpuEff nD τ sig (Elt F) Λ₀ .tc) α} :
    has c (xvS c t) X
      ⊢ iprop((has c (xvS c t) X -∗ wpc c (k X) Q)
          -∗ wpc c (.op (.load xvM (Rect.unit (s := S2048x512) o' S512x512.size i').toLoadRect hl) k) Q) :=
  load_own c h
theorem load_acc {α : Type} {Q : α → sProp 𝕄} (r s : Fin 4) {o' : Fin S4x512x512.rank → ℕ} {M : Memref sig .tc .vmem S4x512x512 .bf16} (hM : M = accM r)
    (h : o' = ![s.val, 0, 0]) {i' : ∀ a, o' a + S1x512x512.size a ≤ S4x512x512.size a} {hl : M.view.LoadsAt (Rect.unit (s := S4x512x512) o' S1x512x512.size i').toLoadRect}
    {X : S1x512x512.Idx → Elt F .bf16} {k : (S1x512x512.Idx → Elt F .bf16) → Prog (TpuEff nD τ sig (Elt F) Λ₀ .tc) α} :
    has c (accS r s) X
      ⊢ iprop((has c (accS r s) X -∗ wpc c (k X) Q)
          -∗ wpc c (.op (.load M (Rect.unit (s := S4x512x512) o' S1x512x512.size i').toLoadRect hl) k) Q) := by
  subst hM
  exact load_own c h
theorem load_com {α : Type} {Q : α → sProp 𝕄} (r : Fin 4) (s : Fin 3) {o' : Fin S3x512x512.rank → ℕ} {M : Memref sig .tc .vmem S3x512x512 .bf16} (hM : M = comM r)
    (h : o' = ![s.val, 0, 0]) {i' : ∀ a, o' a + S1x512x512.size a ≤ S3x512x512.size a} {hl : M.view.LoadsAt (Rect.unit (s := S3x512x512) o' S1x512x512.size i').toLoadRect}
    {X : S1x512x512.Idx → Elt F .bf16} {k : (S1x512x512.Idx → Elt F .bf16) → Prog (TpuEff nD τ sig (Elt F) Λ₀ .tc) α} :
    has c (comS r s) X
      ⊢ iprop((has c (comS r s) X -∗ wpc c (k X) Q)
          -∗ wpc c (.op (.load M (Rect.unit (s := S3x512x512) o' S1x512x512.size i').toLoadRect hl) k) Q) := by
  subst hM
  exact load_own c h
theorem store_acc {α : Type} {Q : α → sProp 𝕄} (r s : Fin 4) {o' : Fin S4x512x512.rank → ℕ} {M : Memref sig .tc .vmem S4x512x512 .bf16} (hM : M = accM r)
    (h : o' = ![s.val, 0, 0]) {i' : ∀ a, o' a + S1x512x512.size a ≤ S4x512x512.size a}
    {w : S1x512x512.Idx → Elt F .bf16} (X : S1x512x512.Idx → Elt F .bf16) (hw : w = X)
    {hx : (M.access (Rect.unit (s := S4x512x512) o' S1x512x512.size i')).Stores Finset.univ}
    {hm : (Finset.univ : Finset (Rect.unit (s := S4x512x512) o' S1x512x512.size i').shape.Idx) = Finset.univ ∨ ∀ a, (Rect.unit (s := S4x512x512) o' S1x512x512.size i').stride a = 1}
    {k : PUnit → Prog (TpuEff nD τ sig (Elt F) Λ₀ .tc) α} :
    hold c (accS r s)
      ⊢ iprop((has c (accS r s) X -∗ wpc c (k ⟨⟩) Q)
          -∗ wpc c (.op (.store M (Rect.unit (s := S4x512x512) o' S1x512x512.size i') w Finset.univ hx hm) k) Q) := by
  subst hM; subst hw
  exact store_own c h
theorem put_acc {α : Type} {Q : α → sProp 𝕄} (r s : Fin 4) {o' : Fin S4x512x512.rank → ℕ} {M : Memref sig .tc .vmem S4x512x512 .bf16} (hM : M = accM r)
    (h : o' = ![s.val, 0, 0]) {i' : ∀ a, o' a + S1x512x512.size a ≤ S4x512x512.size a} {hl : M.view.LoadsAt (Rect.unit (s := S4x512x512) o' S1x512x512.size i').toLoadRect}
    {w : S1x512x512.Idx → Elt F .bf16} (X : S1x512x512.Idx → Elt F .bf16) (hw : w = X)
    {hx : (M.access (Rect.unit (s := S4x512x512) o' S1x512x512.size i')).Stores Finset.univ}
    {hm : (Finset.univ : Finset (Rect.unit (s := S4x512x512) o' S1x512x512.size i').shape.Idx) = Finset.univ ∨ ∀ a, (Rect.unit (s := S4x512x512) o' S1x512x512.size i').stride a = 1}
    {k : PUnit → Prog (TpuEff nD τ sig (Elt F) Λ₀ .tc) α} :
    hold c (accS r s)
      ⊢ iprop((has c (accS r s) X -∗ wpc c (k ⟨⟩) Q)
          -∗ wpc c (.op (.load M (Rect.unit (s := S4x512x512) o' S1x512x512.size i').toLoadRect hl) fun _ =>
              .op (.store M (Rect.unit (s := S4x512x512) o' S1x512x512.size i') w Finset.univ hx hm) k) Q) := by
  subst hM
  exact put c h X hw

end Piece

/-! ## The parts of the body, at the launch's buffers -/

abbrev part1 := k0_part1 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21
abbrev part2 := k0_part2 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21
abbrev part3 := k0_part3 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21
abbrev part4 := k0_part4 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21
abbrev part5 := k0_part5 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21
abbrev part6 := k0_part6 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21
abbrev part7 := k0_part7 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21
abbrev part8 := k0_part8 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21
abbrev part9 := k0_part9 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21
abbrev part10 := k0_part10 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21
abbrev part11 := k0_part11 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21
abbrev part12 := k0_part12 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21
abbrev part13 := k0_part13 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21
abbrev part14 := k0_part14 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21
abbrev part15 := k0_part15 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21
abbrev part16 := k0_part16 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21
abbrev part17 := k0_part17 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21
abbrev part18 := k0_part18 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21
abbrev part19 := k0_part19 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21
abbrev part20 := k0_part20 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21
abbrev part21 := k0_part21 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21
abbrev part22 := k0_part22 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21
abbrev part23 := k0_part23 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21
abbrev part24 := k0_part24 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21
abbrev part25 := k0_part25 (F := F) (Memref.whole main_arg0) (Memref.isWhole_whole _) (Memref.whole main_arg1) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) cc0_scratch12 cc0_scratch13 cc0_scratch14 cc0_scratch15 cc0_scratch16 cc0_scratch17 cc0_scratch18 cc0_scratch19 cc0_scratch20 cc0_scratch21

end Cert.KernelIdeal.Rings

end
-- ==== Proof.Parts.lean ====
/-
# The first parts of the body

From the copies in to the last of the products: parts 1 to 10. Each theorem says what a part needs of the
named pieces and what it leaves of them.
-/
module

public import proofs.«01_k».proof.Proof.Moves

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ) (c : Dev nD)

theorem lev_of : (iprop(levAts L lv ∗ records m K) : sProp 𝕄) ⊢ levAts L lv := by
  iintro ⟨H, -⟩; iexact H
theorem rec_of : (iprop(levAts L lv ∗ records m K) : sProp 𝕄) ⊢ records m K := by
  iintro ⟨-, H⟩; iexact H

/-- The whole of the rounded `w`, loaded. -/
theorem wb_whole {i : ∀ a, ![0, 0] a + S512x2048.size a ≤ S512x2048.size a} :
    (fun j => wb m c ((Rect.unit (s := S512x2048) ![0, 0] S512x2048.size i).emb j)) = wb m c := by
  funext j
  congr 1
  funext a
  apply Fin.ext
  rw [Rect.emb_apply]
  fin_cases a
  · show 0 + 1 * (j 0).val = (j 0).val; omega
  · show 0 + 1 * (j 1).val = (j 1).val; omega

/-- Part 1: the chunk of `x` before the device's own starts to be copied in. -/
theorem part1_ok {Q : (Σ' (d0 : Dev nD) (v2 : BitVec 32) (v5 : BitVec 32), BitVec 32) → sProp 𝕄} :
    has c (xS c 0) (xc m c 0)
      ⊢ iprop(hold c (xvS c 0) -∗ semVal ((c : Thread nD τ), .dma (xQ 0)) 0
          -∗ (flyX m c 0 -∗ ∀ (v2 v5 v7 : BitVec 32), Q ⟨c, v2, v5, v7⟩)
          -∗ wpc c (part1 ) Q) := by
  unfold part1
  simp only [k0_part1_eq_skeleton]
  unfold k0_part1_skel
  simp only [semSignalWord, semWaitWord, Prog.lift, Prog.bind_op, Prog.bind_ret, Prog.pure_eq_ret, wp_deviceId]
  iintro Hx0 Hxv0 Hix0 Hk
  iapply (copy_x m c 0 rfl rfl rfl) $$ Hx0 Hxv0 Hix0
  iintro Hfx0
  iapply (wpc_ret c _)
  iapply Hk $$ Hfx0

/-- Part 2: so do the lanes of `w` and the other chunks. -/
theorem part2_ok {Q : PUnit → sProp 𝕄} :
    has c (wS 0) (wc m c 0)
      ⊢ iprop(hold c (wvS 0) -∗ semVal ((c : Thread nD τ), .dma (wQ 0)) 0 -∗ has c (xS c 1) (xc m c 1) -∗ hold c (xvS c 1) -∗ semVal ((c : Thread nD τ), .dma (xQ 1)) 0 -∗ has c (wS 2) (wc m c 2) -∗ hold c (wvS 2) -∗ semVal ((c : Thread nD τ), .dma (wQ 2)) 0 -∗ has c (wS 1) (wc m c 1) -∗ hold c (wvS 1) -∗ semVal ((c : Thread nD τ), .dma (wQ 1)) 0 -∗ has c (wS 3) (wc m c 3) -∗ hold c (wvS 3) -∗ semVal ((c : Thread nD τ), .dma (wQ 3)) 0 -∗ has c (xS c 2) (xc m c 2) -∗ hold c (xvS c 2) -∗ semVal ((c : Thread nD τ), .dma (xQ 2)) 0 -∗ has c (xS c 3) (xc m c 3) -∗ hold c (xvS c 3) -∗ semVal ((c : Thread nD τ), .dma (xQ 3)) 0
          -∗ (flyW m c 0 -∗ flyX m c 1 -∗ flyW m c 2 -∗ flyW m c 1 -∗ flyW m c 3 -∗ flyX m c 2 -∗ flyX m c 3 -∗ Q ⟨⟩)
          -∗ wpc c (part2 c) Q) := by
  unfold part2
  simp only [k0_part2_eq_skeleton]
  unfold k0_part2_skel
  simp only [semSignalWord, semWaitWord, Prog.lift, Prog.bind_op, Prog.bind_ret, Prog.pure_eq_ret, wp_deviceId]
  iintro Hw0 Hwv0 Hiw0 Hx1 Hxv1 Hix1 Hw2 Hwv2 Hiw2 Hw1 Hwv1 Hiw1 Hw3 Hwv3 Hiw3 Hx2 Hxv2 Hix2 Hx3 Hxv3 Hix3 Hk
  iapply (copy_w m c 0 rfl rfl rfl) $$ Hw0 Hwv0 Hiw0
  iintro Hfw0
  iapply (copy_x m c 1 rfl rfl rfl) $$ Hx1 Hxv1 Hix1
  iintro Hfx1
  iapply (copy_w m c 2 rfl rfl rfl) $$ Hw2 Hwv2 Hiw2
  iintro Hfw2
  iapply (copy_w m c 1 rfl rfl rfl) $$ Hw1 Hwv1 Hiw1
  iintro Hfw1
  iapply (copy_w m c 3 rfl rfl rfl) $$ Hw3 Hwv3 Hiw3
  iintro Hfw3
  iapply (copy_x m c 2 rfl rfl rfl) $$ Hx2 Hxv2 Hix2
  iintro Hfx2
  iapply (copy_x m c 3 rfl rfl rfl) $$ Hx3 Hxv3 Hix3
  iintro Hfx3
  iapply (wpc_ret c _)
  iapply Hk $$ Hfw0 Hfx1 Hfw2 Hfw1 Hfw3 Hfx2 Hfx3

/-- Part 3: the handshake with both neighbours; lane 0 of `w` is rounded. -/
theorem part3_ok (v2 : BitVec 32) (v5 : BitVec 32) (v7 : BitVec 32) {Q : (Σ' (v80 : FVec F S512x512 .bf16) (v81 : Vec F S512x512 .bf16), FVec F S512x512 .f32) → sProp 𝕄} :
    iprop(levAts L lv ∗ records m K)
      ⊢ iprop(dutyTok ER (barCell (prv c)) 0 true -∗ landing c 0 -∗ landing c 2 -∗ owing c (owed₀ c) -∗ dutyTok ER (barCell (nxt c)) 0 false -∗ landing c 1 -∗ landing c 3 -∗ atPos ER (barCell c) 0 ∅ 0 -∗ cred (tallyAt (barCell c) () 2) -∗ flyX m c 0 -∗ flyW m c 0 -∗ hold c (wbS 0)
          -∗ (owing c (rem c 12) -∗ semVal (barCell c) 0 -∗ landing (peer 0 c) 0 -∗ landing (peer 1 c) 1 -∗ landing (peer 2 c) 2 -∗ landing (peer 3 c) 3 -∗ has c (xvS c 0) (xc m c 0) -∗ has c (xS c 0) (xc m c 0) -∗ semVal ((c : Thread nD τ), .dma (xQ 0)) 0 -∗ has c (wvS 0) (wc m c 0) -∗ has c (wS 0) (wc m c 0) -∗ semVal ((c : Thread nD τ), .dma (wQ 0)) 0 -∗ has c (wbS 0) (wbl m c 0) -∗ Q ⟨k0_pay2 (xc m c 0), wbl m c 0, constant S512x512 .f32 0x00000000#32⟩)
          -∗ wpc c (part3 c v2 v5 v7) Q) := by
  unfold part3
  simp only [k0_part3_eq_skeleton]
  unfold k0_part3_skel
  simp only [semSignalWord, semWaitWord, Prog.lift, Prog.bind_op, Prog.bind_ret, Prog.pure_eq_ret, wp_deviceId]
  iintro #HLR Htp Hln0 Hln2 HO Htn Hln1 Hln3 Hab Hcb Hfx0 Hfw0 Hwb0 Hk
  ihave #HL := lev_of m K $$ HLR
  ihave #HR := rec_of m K $$ HLR
  iapply (signal_prv m K c (dev1_eq c)) $$ HR Htp Hln0 Hln2 HO
  iintro HO
  iapply (signal_nxt m K c (dev2_eq c)) $$ HR Htn Hln1 Hln3 HO
  iintro HO
  iapply (wait_bar m K c) $$ HLR Hab Hcb HO
  iintro Hzb Hpl0 Hpl1 Hpl2 Hpl3 HO
  iapply (wait_x m c 0 12 (by decide) rfl) $$ HL Hfx0 HO
  iintro ⟨Hxv0, Hx0⟩ Hix0 HO
  iapply (wait_w m c 0 12 (by decide) rfl) $$ HL Hfw0 HO
  iintro ⟨Hwv0, Hw0⟩ Hiw0 HO
  iapply (load_lane c wvM 0 rfl) $$ Hwv0
  iintro Hwv0
  iapply (put_lane c wbM 0 rfl (wbl m c 0) (pay1_wc m c 0)) $$ Hwb0
  iintro Hwb0
  iapply (load_x c 0 (off2_eq c 0)) $$ Hxv0
  iintro Hxv0
  iapply (load_lane c wbM 0 rfl) $$ Hwb0
  iintro Hwb0
  iapply (wpc_ret c _)
  iapply Hk $$ HO Hzb Hpl0 Hpl1 Hpl2 Hpl3 Hxv0 Hx0 Hix0 Hwv0 Hw0 Hiw0 Hwb0

/-- Part 4: the first hop of ring 0; lane 2 of `w` is rounded. -/
theorem part4_ok (v2 : BitVec 32) (v7 : BitVec 32) {Q : (BitVec 32) → sProp 𝕄} :
    iprop(levAts L lv ∗ records m K)
      ⊢ iprop(hold c (accS 0 0) -∗ kit0 c 0 0 -∗ hold (peer 0 c) (comS 0 0) -∗ owing c (rem c 12) -∗ flyX m c 1 -∗ flyW m c 2 -∗ hold c (wbS 2)
          -∗ (kit1 c 0 0 -∗ owing c (rem c 11) -∗ has c (xvS c 1) (xc m c 1) -∗ has c (xS c 1) (xc m c 1) -∗ semVal ((c : Thread nD τ), .dma (xQ 1)) 0 -∗ has c (wvS 2) (wc m c 2) -∗ has c (wS 2) (wc m c 2) -∗ semVal ((c : Thread nD τ), .dma (wQ 2)) 0 -∗ has c (wbS 2) (wbl m c 2) -∗ ∀ v : BitVec 32, Q v)
          -∗ wpc c (part4 c v2 v7 (k0_pay2 (xc m c 0)) (wbl m c 0) (constant S512x512 .f32 0x00000000#32)) Q) := by
  unfold part4
  simp only [k0_part4_eq_skeleton]
  unfold k0_part4_skel
  simp only [semSignalWord, semWaitWord, Prog.lift, Prog.bind_op, Prog.bind_ret, Prog.pure_eq_ret, wp_deviceId]
  iintro #HLR Ha00 Hk00 Hd00 HO Hfx1 Hfw2 Hwb2 Hk
  ihave #HL := lev_of m K $$ HLR
  ihave #HR := rec_of m K $$ HLR
  iapply (put_acc c 0 0 rfl rfl (accAt m 0 0 c) rfl) $$ Ha00
  iintro Ha00
  iapply (send_step m K c 0 0 0 0 rfl rfl 11 (dev3_eq c) rfl rfl rfl rfl rfl) $$ HR Hk00 Ha00 Hd00 HO
  iintro Hk00 HO
  iapply (wait_x m c 1 11 (by decide) rfl) $$ HL Hfx1 HO
  iintro ⟨Hxv1, Hx1⟩ Hix1 HO
  iapply (wait_w m c 2 11 (by decide) rfl) $$ HL Hfw2 HO
  iintro ⟨Hwv2, Hw2⟩ Hiw2 HO
  iapply (load_lane c wvM 2 rfl) $$ Hwv2
  iintro Hwv2
  iapply (put_lane c wbM 2 rfl (wbl m c 2) (pay1_wc m c 2)) $$ Hwb2
  iintro Hwb2
  iapply (wpc_ret c _)
  iapply Hk $$ Hk00 HO Hxv1 Hx1 Hix1 Hwv2 Hw2 Hiw2 Hwb2

/-- Part 5: the first hop of ring 1. -/
theorem part5_ok (v5 : BitVec 32) (v110 : BitVec 32) {Q : (FVec F S512x512 .bf16) → sProp 𝕄} :
    iprop(levAts L lv ∗ records m K)
      ⊢ iprop(has c (xvS c 1) (xc m c 1) -∗ has c (wbS 2) (wbl m c 2) -∗ hold c (accS 1 0) -∗ kit0 c 1 0 -∗ hold (peer 1 c) (comS 1 0) -∗ owing c (rem c 11) -∗ flyW m c 1
          -∗ (has c (xvS c 1) (xc m c 1) -∗ has c (wbS 2) (wbl m c 2) -∗ kit1 c 1 0 -∗ owing c (rem c 10) -∗ has c (wvS 1) (wc m c 1) -∗ has c (wS 1) (wc m c 1) -∗ semVal ((c : Thread nD τ), .dma (wQ 1)) 0 -∗ Q (k0_pay6 (wc m c 1)))
          -∗ wpc c (part5 c v5 v110) Q) := by
  unfold part5
  simp only [k0_part5_eq_skeleton]
  unfold k0_part5_skel
  simp only [semSignalWord, semWaitWord, Prog.lift, Prog.bind_op, Prog.bind_ret, Prog.pure_eq_ret, wp_deviceId]
  iintro #HLR Hxv1 Hwb2 Ha10 Hk10 Hd10 HO Hfw1 Hk
  ihave #HL := lev_of m K $$ HLR
  ihave #HR := rec_of m K $$ HLR
  iapply (load_x c 1 (off2_eq c 1)) $$ Hxv1
  iintro Hxv1
  iapply (load_lane c wbM 2 rfl) $$ Hwb2
  iintro Hwb2
  iapply (put_acc c 1 0 rfl rfl (accAt m 1 0 c) rfl) $$ Ha10
  iintro Ha10
  iapply (send_step m K c 1 0 0 0 rfl rfl 10 (dev4_eq c) rfl rfl rfl rfl rfl) $$ HR Hk10 Ha10 Hd10 HO
  iintro Hk10 HO
  iapply (wait_w m c 1 10 (by decide) rfl) $$ HL Hfw1 HO
  iintro ⟨Hwv1, Hw1⟩ Hiw1 HO
  iapply (load_lane c wvM 1 rfl) $$ Hwv1
  iintro Hwv1
  iapply (wpc_ret c _)
  iapply Hk $$ Hxv1 Hwb2 Hk10 HO Hwv1 Hw1 Hiw1

/-- Part 6: lane 1 of `w` is rounded; the first hop of ring 2. -/
theorem part6_ok (v2 : BitVec 32) (v7 : BitVec 32) {Q : PUnit → sProp 𝕄} :
    iprop(levAts L lv ∗ records m K)
      ⊢ iprop(hold c (wbS 1) -∗ has c (xvS c 0) (xc m c 0) -∗ hold c (accS 2 0) -∗ kit0 c 2 0 -∗ hold (peer 2 c) (comS 2 0) -∗ owing c (rem c 10) -∗ flyW m c 3
          -∗ (has c (wbS 1) (wbl m c 1) -∗ has c (xvS c 0) (xc m c 0) -∗ kit1 c 2 0 -∗ owing c (rem c 9) -∗ has c (wvS 3) (wc m c 3) -∗ has c (wS 3) (wc m c 3) -∗ semVal ((c : Thread nD τ), .dma (wQ 3)) 0 -∗ Q ⟨⟩)
          -∗ wpc c (part6 c v2 v7 (k0_pay6 (wc m c 1))) Q) := by
  unfold part6
  simp only [k0_part6_eq_skeleton]
  unfold k0_part6_skel
  simp only [semSignalWord, semWaitWord, Prog.lift, Prog.bind_op, Prog.bind_ret, Prog.pure_eq_ret, wp_deviceId]
  iintro #HLR Hwb1 Hxv0 Ha20 Hk20 Hd20 HO Hfw3 Hk
  ihave #HL := lev_of m K $$ HLR
  ihave #HR := rec_of m K $$ HLR
  iapply (put_lane c wbM 1 rfl (wbl m c 1) (pay1_wc m c 1)) $$ Hwb1
  iintro Hwb1
  iapply (load_x c 0 (off2_eq c 0)) $$ Hxv0
  iintro Hxv0
  iapply (load_lane c wbM 1 rfl) $$ Hwb1
  iintro Hwb1
  iapply (put_acc c 2 0 rfl rfl (accAt m 2 0 c) rfl) $$ Ha20
  iintro Ha20
  iapply (send_step m K c 2 0 0 0 rfl rfl 9 (dev5_eq c) rfl rfl rfl rfl rfl) $$ HR Hk20 Ha20 Hd20 HO
  iintro Hk20 HO
  iapply (wait_w m c 3 9 (by decide) rfl) $$ HL Hfw3 HO
  iintro ⟨Hwv3, Hw3⟩ Hiw3 HO
  iapply (wpc_ret c _)
  iapply Hk $$ Hwb1 Hxv0 Hk20 HO Hwv3 Hw3 Hiw3

/-- Part 7: lane 3 of `w` is rounded; the first hop of ring 3. -/
theorem part7_ok (v2 : BitVec 32) (v5 : BitVec 32) {Q : PUnit → sProp 𝕄} :
    iprop(records m K)
      ⊢ iprop(has c (wvS 3) (wc m c 3) -∗ hold c (wbS 3) -∗ has c (xvS c 1) (xc m c 1) -∗ hold c (accS 3 0) -∗ kit0 c 3 0 -∗ hold (peer 3 c) (comS 3 0) -∗ owing c (rem c 9)
          -∗ (has c (wvS 3) (wc m c 3) -∗ has c (wbS 3) (wbl m c 3) -∗ has c (xvS c 1) (xc m c 1) -∗ kit1 c 3 0 -∗ owing c (rem c 8) -∗ Q ⟨⟩)
          -∗ wpc c (part7 c v2 v5) Q) := by
  unfold part7
  simp only [k0_part7_eq_skeleton]
  unfold k0_part7_skel
  simp only [semSignalWord, semWaitWord, Prog.lift, Prog.bind_op, Prog.bind_ret, Prog.pure_eq_ret, wp_deviceId]
  iintro #HR Hwv3 Hwb3 Hxv1 Ha30 Hk30 Hd30 HO Hk
  iapply (load_lane c wvM 3 rfl) $$ Hwv3
  iintro Hwv3
  iapply (put_lane c wbM 3 rfl (wbl m c 3) (pay1_wc m c 3)) $$ Hwb3
  iintro Hwb3
  iapply (load_x c 1 (off2_eq c 1)) $$ Hxv1
  iintro Hxv1
  iapply (load_lane c wbM 3 rfl) $$ Hwb3
  iintro Hwb3
  iapply (put_acc c 3 0 rfl rfl (accAt m 3 0 c) rfl) $$ Ha30
  iintro Ha30
  iapply (send_step m K c 3 0 0 0 rfl rfl 8 (dev6_eq c) rfl rfl rfl rfl rfl) $$ HR Hk30 Ha30 Hd30 HO
  iintro Hk30 HO
  iapply (wpc_ret c _)
  iapply Hk $$ Hwv3 Hwb3 Hxv1 Hk30 HO

/-- Part 8: the products of the farthest chunk. -/
theorem part8_ok (v2 : BitVec 32) {Q : (Σ' (v230 : BitVec 32), BitVec 32) → sProp 𝕄} :
    iprop(levAts L lv)
      ⊢ iprop(flyX m c 2 -∗ owing c (rem c 8) -∗ has c wbM (wb m c) -∗ hold c (accS 0 1) -∗ hold c (accS 2 1) -∗ hold c (accS 1 1) -∗ hold c (accS 3 1)
          -∗ (owing c (rem c 8) -∗ has c (xvS c 2) (xc m c 2) -∗ has c (xS c 2) (xc m c 2) -∗ semVal ((c : Thread nD τ), .dma (xQ 2)) 0 -∗ has c wbM (wb m c) -∗ has c (accS 0 1) (prodAt m 0 1 c) -∗ has c (accS 2 1) (prodAt m 2 1 c) -∗ has c (accS 1 1) (prodAt m 1 1 c) -∗ has c (accS 3 1) (prodAt m 3 1 c) -∗ ∀ (v u : BitVec 32), Q ⟨v, u⟩)
          -∗ wpc c (part8 c v2) Q) := by
  unfold part8
  simp only [k0_part8_eq_skeleton]
  unfold k0_part8_skel
  simp only [semSignalWord, semWaitWord, Prog.lift, Prog.bind_op, Prog.bind_ret, Prog.pure_eq_ret, wp_deviceId]
  iintro #HL Hfx2 HO HwB Ha01 Ha21 Ha11 Ha31 Hk
  iapply (wait_x m c 2 8 (by decide) rfl) $$ HL Hfx2 HO
  iintro ⟨Hxv2, Hx2⟩ Hix2 HO
  iapply (load_x c 2 (off2_eq c 2)) $$ Hxv2
  iintro Hxv2
  iapply (load_sub c (Y := wb m c) (wb_whole m c)) $$ HwB
  iintro HwB
  iapply (put_acc c 0 1 rfl rfl (prodAt m 0 1 c) rfl) $$ Ha01
  iintro Ha01
  iapply (put_acc c 2 1 rfl rfl (prodAt m 2 1 c) rfl) $$ Ha21
  iintro Ha21
  iapply (put_acc c 1 1 rfl rfl (prodAt m 1 1 c) rfl) $$ Ha11
  iintro Ha11
  iapply (put_acc c 3 1 rfl rfl (prodAt m 3 1 c) rfl) $$ Ha31
  iintro Ha31
  iapply (wpc_ret c _)
  iapply Hk $$ HO Hxv2 Hx2 Hix2 HwB Ha01 Ha21 Ha11 Ha31

/-- Part 9: the products of the neighbours' chunks. -/
theorem part9_ok (v2 : BitVec 32) (v230 : BitVec 32) (v194 : BitVec 32) {Q : (FVec F S512x512 .bf16) → sProp 𝕄} :
    has c (xvS c 1) (xc m c 1)
      ⊢ iprop(has c wbM (wb m c) -∗ hold c (accS 0 2) -∗ hold c (accS 2 2) -∗ has c (xvS c 0) (xc m c 0) -∗ hold c (accS 1 2)
          -∗ (has c (xvS c 1) (xc m c 1) -∗ has c wbM (wb m c) -∗ has c (accS 0 2) (prodAt m 0 2 c) -∗ has c (accS 2 2) (prodAt m 2 2 c) -∗ has c (xvS c 0) (xc m c 0) -∗ has c (accS 1 2) (prodAt m 1 2 c) -∗ Q (k0_pay21 (xc m c 0) (wbh m c 1)))
          -∗ wpc c (part9 c v2 v230 v194) Q) := by
  unfold part9
  simp only [k0_part9_eq_skeleton]
  unfold k0_part9_skel
  simp only [semSignalWord, semWaitWord, Prog.lift, Prog.bind_op, Prog.bind_ret, Prog.pure_eq_ret, wp_deviceId]
  iintro Hxv1 HwB Ha02 Ha22 Hxv0 Ha12 Hk
  iapply (load_x c 1 (off2_eq c 1)) $$ Hxv1
  iintro Hxv1
  iapply (load_sub c (Y := wbh m c 0) rfl) $$ HwB
  iintro HwB
  iapply (put_acc c 0 2 rfl rfl (prodAt m 0 2 c) rfl) $$ Ha02
  iintro Ha02
  iapply (put_acc c 2 2 rfl rfl (prodAt m 2 2 c) rfl) $$ Ha22
  iintro Ha22
  iapply (load_x c 0 (off2_eq c 0)) $$ Hxv0
  iintro Hxv0
  iapply (load_sub c (Y := wbh m c 1) rfl) $$ HwB
  iintro HwB
  iapply (put_acc c 1 2 rfl rfl (prodAt m 1 2 c) rfl) $$ Ha12
  iintro Ha12
  iapply (wpc_ret c _)
  iapply Hk $$ Hxv1 HwB Ha02 Ha22 Hxv0 Ha12

/-- Part 10: the products of the device's own chunk. -/
theorem part10_ok (v2 : BitVec 32) {Q : (FVec F S512x512 .f32) → sProp 𝕄} :
    iprop(levAts L lv)
      ⊢ iprop(hold c (accS 3 2) -∗ flyX m c 3 -∗ owing c (rem c 8) -∗ has c wbM (wb m c) -∗ hold c (accS 0 3) -∗ hold c (accS 2 3) -∗ hold c (accS 1 3)
          -∗ (has c (accS 3 2) (prodAt m 3 2 c) -∗ owing c (rem c 8) -∗ has c (xvS c 3) (xc m c 3) -∗ has c (xS c 3) (xc m c 3) -∗ semVal ((c : Thread nD τ), .dma (xQ 3)) 0 -∗ has c wbM (wb m c) -∗ has c (accS 0 3) (prodAt m 0 3 c) -∗ has c (accS 2 3) (prodAt m 2 3 c) -∗ has c (accS 1 3) (prodAt m 1 3 c) -∗ Q (k0_pay27 (xc m c 3) (wb m c)))
          -∗ wpc c (part10 c v2 (k0_pay21 (xc m c 0) (wbh m c 1))) Q) := by
  unfold part10
  simp only [k0_part10_eq_skeleton]
  unfold k0_part10_skel
  simp only [semSignalWord, semWaitWord, Prog.lift, Prog.bind_op, Prog.bind_ret, Prog.pure_eq_ret, wp_deviceId]
  iintro #HL Ha32 Hfx3 HO HwB Ha03 Ha23 Ha13 Hk
  iapply (put_acc c 3 2 rfl rfl (prodAt m 3 2 c) rfl) $$ Ha32
  iintro Ha32
  iapply (wait_x m c 3 8 (by decide) rfl) $$ HL Hfx3 HO
  iintro ⟨Hxv3, Hx3⟩ Hix3 HO
  iapply (load_x c 3 (off2_eq c 3)) $$ Hxv3
  iintro Hxv3
  iapply (load_sub c (Y := wb m c) (wb_whole m c)) $$ HwB
  iintro HwB
  iapply (put_acc c 0 3 rfl rfl (prodAt m 0 3 c) rfl) $$ Ha03
  iintro Ha03
  iapply (put_acc c 2 3 rfl rfl (prodAt m 2 3 c) rfl) $$ Ha23
  iintro Ha23
  iapply (put_acc c 1 3 rfl rfl (prodAt m 1 3 c) rfl) $$ Ha13
  iintro Ha13
  iapply (wpc_ret c _)
  iapply Hk $$ Ha32 HO Hxv3 Hx3 Hix3 HwB Ha03 Ha23 Ha13

end Cert.KernelIdeal.Rings

end
-- ==== Proof.Hops.lean ====
/-
# The later parts of the body

The second and third hops of the four rings, and the copies of the result: parts 11 to 25.
-/
module

public import proofs.«01_k».proof.Proof.Parts

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ) (c : Dev nD)

/-- Part 11: the first landing of ring 0 is added. -/
theorem part11_ok (v7 : BitVec 32) {Q : (FVec F S1x512x512 .bf16) → sProp 𝕄} :
    iprop(levAts L lv ∗ records m K)
      ⊢ iprop(hold c (accS 3 3) -∗ kit1 c 0 0 -∗ owing c (rem c 8) -∗ has c (accS 0 1) (prodAt m 0 1 c)
          -∗ (has c (accS 3 3) (prodAt m 3 3 c) -∗ kit3 c 0 0 -∗ owing c (rem c 8) -∗ has c (accS 0 0) (accAt m 0 0 c) -∗ has c (comS 0 0) (accAt m 0 0 (frm 0 c)) -∗ has c (accS 0 1) (prodAt m 0 1 c) -∗ Q (k0_pay29 (accAt m 0 0 (frm 0 c)) (prodAt m 0 1 c)))
          -∗ wpc c (part11 v7 (k0_pay27 (xc m c 3) (wb m c))) Q) := by
  unfold part11
  simp only [k0_part11_eq_skeleton]
  unfold k0_part11_skel
  simp only [semSignalWord, semWaitWord, Prog.lift, Prog.bind_op, Prog.bind_ret, Prog.pure_eq_ret, wp_deviceId]
  iintro #HLR Ha33 Hk00 HO Ha01 Hk
  ihave #HL := lev_of m K $$ HLR
  ihave #HR := rec_of m K $$ HLR
  iapply (put_acc c 3 3 rfl rfl (prodAt m 3 3 c) rfl) $$ Ha33
  iintro Ha33
  iapply (wait_send m K c 0 0 0 0 rfl rfl 8 rfl rfl (by decide)) $$ HLR Hk00 HO
  iintro Hk00 Ha00 HO
  iapply (wait_recv m K c 0 0 0 rfl 8 rfl rfl (by decide)) $$ HLR Hk00 HO
  iintro Hk00 Hg00 HO
  iapply (load_com c 0 0 rfl rfl) $$ Hg00
  iintro Hg00
  iapply (load_acc c 0 1 rfl rfl) $$ Ha01
  iintro Ha01
  iapply (load_acc c 0 1 rfl rfl) $$ Ha01
  iintro Ha01
  iapply (wpc_ret c _)
  iapply Hk $$ Ha33 Hk00 HO Ha00 Hg00 Ha01

/-- Part 12: the second hop of ring 0; the first landing of ring 1. -/
theorem part12_ok (v5 : BitVec 32) (v7 : BitVec 32) {Q : PUnit → sProp 𝕄} :
    iprop(levAts L lv ∗ records m K)
      ⊢ iprop(has c (accS 0 1) (prodAt m 0 1 c) -∗ kit0 c 0 1 -∗ hold (peer 0 c) (comS 0 1) -∗ owing c (rem c 8) -∗ kit1 c 1 0
          -∗ (kit1 c 0 1 -∗ owing c (rem c 7) -∗ kit3 c 1 0 -∗ has c (accS 1 0) (accAt m 1 0 c) -∗ has c (comS 1 0) (accAt m 1 0 (frm 1 c)) -∗ Q ⟨⟩)
          -∗ wpc c (part12 c v5 v7 (k0_pay29 (accAt m 0 0 (frm 0 c)) (prodAt m 0 1 c))) Q) := by
  unfold part12
  simp only [k0_part12_eq_skeleton]
  unfold k0_part12_skel
  simp only [semSignalWord, semWaitWord, Prog.lift, Prog.bind_op, Prog.bind_ret, Prog.pure_eq_ret, wp_deviceId]
  iintro #HLR Ha01 Hk01 Hd01 HO Hk10 Hk
  ihave #HL := lev_of m K $$ HLR
  ihave #HR := rec_of m K $$ HLR
  ihave Ha01 := (has_hold c (accS 0 1) _) $$ Ha01
  iapply (store_acc c 0 1 rfl rfl (accAt m 0 1 c) rfl) $$ Ha01
  iintro Ha01
  iapply (send_step m K c 0 1 1 1 rfl rfl 7 (dev7_eq c) rfl rfl rfl rfl rfl) $$ HR Hk01 Ha01 Hd01 HO
  iintro Hk01 HO
  iapply (wait_send m K c 1 0 0 0 rfl rfl 7 rfl rfl (by decide)) $$ HLR Hk10 HO
  iintro Hk10 Ha10 HO
  iapply (wait_recv m K c 1 0 0 rfl 7 rfl rfl (by decide)) $$ HLR Hk10 HO
  iintro Hk10 Hg10 HO
  iapply (wpc_ret c _)
  iapply Hk $$ Hk01 HO Hk10 Ha10 Hg10

/-- Part 13: the second hop of ring 1. -/
theorem part13_ok (v5 : BitVec 32) (v7 : BitVec 32) {Q : PUnit → sProp 𝕄} :
    iprop(levAts L lv ∗ records m K)
      ⊢ iprop(has c (comS 1 0) (accAt m 1 0 (frm 1 c)) -∗ has c (accS 1 1) (prodAt m 1 1 c) -∗ kit0 c 1 1 -∗ hold (peer 1 c) (comS 1 1) -∗ owing c (rem c 7) -∗ kit1 c 2 0
          -∗ (has c (comS 1 0) (accAt m 1 0 (frm 1 c)) -∗ kit1 c 1 1 -∗ owing c (rem c 6) -∗ kit2 c 2 0 -∗ has c (accS 2 0) (accAt m 2 0 c) -∗ Q ⟨⟩)
          -∗ wpc c (part13 c v5 v7) Q) := by
  unfold part13
  simp only [k0_part13_eq_skeleton]
  unfold k0_part13_skel
  simp only [semSignalWord, semWaitWord, Prog.lift, Prog.bind_op, Prog.bind_ret, Prog.pure_eq_ret, wp_deviceId]
  iintro #HLR Hg10 Ha11 Hk11 Hd11 HO Hk20 Hk
  ihave #HL := lev_of m K $$ HLR
  ihave #HR := rec_of m K $$ HLR
  iapply (load_com c 1 0 rfl rfl) $$ Hg10
  iintro Hg10
  iapply (load_acc c 1 1 rfl rfl) $$ Ha11
  iintro Ha11
  ihave Ha11 := (has_hold c (accS 1 1) _) $$ Ha11
  iapply (put_acc c 1 1 rfl rfl (accAt m 1 1 c) rfl) $$ Ha11
  iintro Ha11
  iapply (send_step m K c 1 1 1 1 rfl rfl 6 (dev8_eq c) rfl rfl rfl rfl rfl) $$ HR Hk11 Ha11 Hd11 HO
  iintro Hk11 HO
  iapply (wait_send m K c 2 0 0 0 rfl rfl 6 rfl rfl (by decide)) $$ HLR Hk20 HO
  iintro Hk20 Ha20 HO
  iapply (wpc_ret c _)
  iapply Hk $$ Hg10 Hk11 HO Hk20 Ha20

/-- Part 14: the second hop of ring 2. -/
theorem part14_ok (v7 : BitVec 32) {Q : PUnit → sProp 𝕄} :
    iprop(levAts L lv ∗ records m K)
      ⊢ iprop(kit2 c 2 0 -∗ owing c (rem c 6) -∗ has c (accS 2 1) (prodAt m 2 1 c) -∗ kit0 c 2 1 -∗ hold (peer 2 c) (comS 2 1)
          -∗ (kit3 c 2 0 -∗ owing c (rem c 5) -∗ has c (comS 2 0) (accAt m 2 0 (frm 2 c)) -∗ kit1 c 2 1 -∗ Q ⟨⟩)
          -∗ wpc c (part14 c v7) Q) := by
  unfold part14
  simp only [k0_part14_eq_skeleton]
  unfold k0_part14_skel
  simp only [semSignalWord, semWaitWord, Prog.lift, Prog.bind_op, Prog.bind_ret, Prog.pure_eq_ret, wp_deviceId]
  iintro #HLR Hk20 HO Ha21 Hk21 Hd21 Hk
  ihave #HL := lev_of m K $$ HLR
  ihave #HR := rec_of m K $$ HLR
  iapply (wait_recv m K c 2 0 0 rfl 6 rfl rfl (by decide)) $$ HLR Hk20 HO
  iintro Hk20 Hg20 HO
  iapply (load_com c 2 0 rfl rfl) $$ Hg20
  iintro Hg20
  iapply (load_acc c 2 1 rfl rfl) $$ Ha21
  iintro Ha21
  ihave Ha21 := (has_hold c (accS 2 1) _) $$ Ha21
  iapply (put_acc c 2 1 rfl rfl (accAt m 2 1 c) rfl) $$ Ha21
  iintro Ha21
  iapply (send_step m K c 2 1 1 1 rfl rfl 5 (dev9_eq c) rfl rfl rfl rfl rfl) $$ HR Hk21 Ha21 Hd21 HO
  iintro Hk21 HO
  iapply (wpc_ret c _)
  iapply Hk $$ Hk20 HO Hg20 Hk21

/-- Part 15: the first landing of ring 3 is added. -/
theorem part15_ok (v5 : BitVec 32) {Q : PUnit → sProp 𝕄} :
    iprop(levAts L lv ∗ records m K)
      ⊢ iprop(kit1 c 3 0 -∗ owing c (rem c 5) -∗ has c (accS 3 1) (prodAt m 3 1 c)
          -∗ (kit3 c 3 0 -∗ owing c (rem c 5) -∗ has c (accS 3 0) (accAt m 3 0 c) -∗ has c (comS 3 0) (accAt m 3 0 (frm 3 c)) -∗ has c (accS 3 1) (accAt m 3 1 c) -∗ Q ⟨⟩)
          -∗ wpc c (part15 v5) Q) := by
  unfold part15
  simp only [k0_part15_eq_skeleton]
  unfold k0_part15_skel
  simp only [semSignalWord, semWaitWord, Prog.lift, Prog.bind_op, Prog.bind_ret, Prog.pure_eq_ret, wp_deviceId]
  iintro #HLR Hk30 HO Ha31 Hk
  ihave #HL := lev_of m K $$ HLR
  ihave #HR := rec_of m K $$ HLR
  iapply (wait_send m K c 3 0 0 0 rfl rfl 5 rfl rfl (by decide)) $$ HLR Hk30 HO
  iintro Hk30 Ha30 HO
  iapply (wait_recv m K c 3 0 0 rfl 5 rfl rfl (by decide)) $$ HLR Hk30 HO
  iintro Hk30 Hg30 HO
  iapply (load_com c 3 0 rfl rfl) $$ Hg30
  iintro Hg30
  iapply (load_acc c 3 1 rfl rfl) $$ Ha31
  iintro Ha31
  ihave Ha31 := (has_hold c (accS 3 1) _) $$ Ha31
  iapply (put_acc c 3 1 rfl rfl (accAt m 3 1 c) rfl) $$ Ha31
  iintro Ha31
  iapply (wpc_ret c _)
  iapply Hk $$ Hk30 HO Ha30 Hg30 Ha31

/-- Part 16: the second hop of ring 3; the second landing of ring 0 is added. -/
theorem part16_ok (v7 : BitVec 32) {Q : PUnit → sProp 𝕄} :
    iprop(levAts L lv ∗ records m K)
      ⊢ iprop(kit0 c 3 1 -∗ has c (accS 3 1) (accAt m 3 1 c) -∗ hold (peer 3 c) (comS 3 1) -∗ owing c (rem c 5) -∗ kit1 c 0 1 -∗ has c (accS 0 2) (prodAt m 0 2 c)
          -∗ (kit1 c 3 1 -∗ owing c (rem c 4) -∗ kit3 c 0 1 -∗ has c (accS 0 1) (accAt m 0 1 c) -∗ has c (comS 0 1) (accAt m 0 1 (frm 0 c)) -∗ has c (accS 0 2) (accAt m 0 2 c) -∗ Q ⟨⟩)
          -∗ wpc c (part16 c v7) Q) := by
  unfold part16
  simp only [k0_part16_eq_skeleton]
  unfold k0_part16_skel
  simp only [semSignalWord, semWaitWord, Prog.lift, Prog.bind_op, Prog.bind_ret, Prog.pure_eq_ret, wp_deviceId]
  iintro #HLR Hk31 Ha31 Hd31 HO Hk01 Ha02 Hk
  ihave #HL := lev_of m K $$ HLR
  ihave #HR := rec_of m K $$ HLR
  iapply (send_step m K c 3 1 1 1 rfl rfl 4 (dev10_eq c) rfl rfl rfl rfl rfl) $$ HR Hk31 Ha31 Hd31 HO
  iintro Hk31 HO
  iapply (wait_send m K c 0 1 1 1 rfl rfl 4 rfl rfl (by decide)) $$ HLR Hk01 HO
  iintro Hk01 Ha01 HO
  iapply (wait_recv m K c 0 1 1 rfl 4 rfl rfl (by decide)) $$ HLR Hk01 HO
  iintro Hk01 Hg01 HO
  iapply (load_com c 0 1 rfl rfl) $$ Hg01
  iintro Hg01
  iapply (load_acc c 0 2 rfl rfl) $$ Ha02
  iintro Ha02
  ihave Ha02 := (has_hold c (accS 0 2) _) $$ Ha02
  iapply (put_acc c 0 2 rfl rfl (accAt m 0 2 c) rfl) $$ Ha02
  iintro Ha02
  iapply (wpc_ret c _)
  iapply Hk $$ Hk31 HO Hk01 Ha01 Hg01 Ha02

/-- Part 17: the last hop of ring 0; the second landing of ring 1. -/
theorem part17_ok (v5 : BitVec 32) (v7 : BitVec 32) {Q : (FVec F S512x512 .bf16) → sProp 𝕄} :
    iprop(levAts L lv ∗ records m K)
      ⊢ iprop(kit0 c 0 2 -∗ has c (accS 0 2) (accAt m 0 2 c) -∗ hold (peer 0 c) (comS 0 2) -∗ owing c (rem c 4) -∗ kit1 c 1 1
          -∗ (kit1 c 0 2 -∗ owing c (rem c 3) -∗ kit3 c 1 1 -∗ has c (accS 1 1) (accAt m 1 1 c) -∗ has c (comS 1 1) (accAt m 1 1 (frm 1 c)) -∗ Q (k0_pay34 (accAt m 1 1 (frm 1 c))))
          -∗ wpc c (part17 c v5 v7) Q) := by
  unfold part17
  simp only [k0_part17_eq_skeleton]
  unfold k0_part17_skel
  simp only [semSignalWord, semWaitWord, Prog.lift, Prog.bind_op, Prog.bind_ret, Prog.pure_eq_ret, wp_deviceId]
  iintro #HLR Hk02 Ha02 Hd02 HO Hk11 Hk
  ihave #HL := lev_of m K $$ HLR
  ihave #HR := rec_of m K $$ HLR
  iapply (send_step m K c 0 2 2 2 rfl rfl 3 (dev11_eq c) rfl rfl rfl rfl rfl) $$ HR Hk02 Ha02 Hd02 HO
  iintro Hk02 HO
  iapply (wait_send m K c 1 1 1 1 rfl rfl 3 rfl rfl (by decide)) $$ HLR Hk11 HO
  iintro Hk11 Ha11 HO
  iapply (wait_recv m K c 1 1 1 rfl 3 rfl rfl (by decide)) $$ HLR Hk11 HO
  iintro Hk11 Hg11 HO
  iapply (load_com c 1 1 rfl rfl) $$ Hg11
  iintro Hg11
  iapply (wpc_ret c _)
  iapply Hk $$ Hk02 HO Hk11 Ha11 Hg11

/-- Part 18: the last hop of ring 1. -/
theorem part18_ok (v5 : BitVec 32) (v7 : BitVec 32) {Q : PUnit → sProp 𝕄} :
    iprop(levAts L lv ∗ records m K)
      ⊢ iprop(has c (accS 1 2) (prodAt m 1 2 c) -∗ kit0 c 1 2 -∗ hold (peer 1 c) (comS 1 2) -∗ owing c (rem c 3) -∗ kit1 c 2 1
          -∗ (kit1 c 1 2 -∗ owing c (rem c 2) -∗ kit2 c 2 1 -∗ has c (accS 2 1) (accAt m 2 1 c) -∗ Q ⟨⟩)
          -∗ wpc c (part18 c v5 v7 (k0_pay34 (accAt m 1 1 (frm 1 c)))) Q) := by
  unfold part18
  simp only [k0_part18_eq_skeleton]
  unfold k0_part18_skel
  simp only [semSignalWord, semWaitWord, Prog.lift, Prog.bind_op, Prog.bind_ret, Prog.pure_eq_ret, wp_deviceId]
  iintro #HLR Ha12 Hk12 Hd12 HO Hk21 Hk
  ihave #HL := lev_of m K $$ HLR
  ihave #HR := rec_of m K $$ HLR
  iapply (load_acc c 1 2 rfl rfl) $$ Ha12
  iintro Ha12
  ihave Ha12 := (has_hold c (accS 1 2) _) $$ Ha12
  iapply (put_acc c 1 2 rfl rfl (accAt m 1 2 c) rfl) $$ Ha12
  iintro Ha12
  iapply (send_step m K c 1 2 2 2 rfl rfl 2 (dev12_eq c) rfl rfl rfl rfl rfl) $$ HR Hk12 Ha12 Hd12 HO
  iintro Hk12 HO
  iapply (wait_send m K c 2 1 1 1 rfl rfl 2 rfl rfl (by decide)) $$ HLR Hk21 HO
  iintro Hk21 Ha21 HO
  iapply (wpc_ret c _)
  iapply Hk $$ Hk12 HO Hk21 Ha21

/-- Part 19: the last hop of ring 2. -/
theorem part19_ok (v7 : BitVec 32) {Q : PUnit → sProp 𝕄} :
    iprop(levAts L lv ∗ records m K)
      ⊢ iprop(kit2 c 2 1 -∗ owing c (rem c 2) -∗ has c (accS 2 2) (prodAt m 2 2 c) -∗ kit0 c 2 2 -∗ hold (peer 2 c) (comS 2 2)
          -∗ (kit3 c 2 1 -∗ owing c (rem c 1) -∗ has c (comS 2 1) (accAt m 2 1 (frm 2 c)) -∗ kit1 c 2 2 -∗ Q ⟨⟩)
          -∗ wpc c (part19 c v7) Q) := by
  unfold part19
  simp only [k0_part19_eq_skeleton]
  unfold k0_part19_skel
  simp only [semSignalWord, semWaitWord, Prog.lift, Prog.bind_op, Prog.bind_ret, Prog.pure_eq_ret, wp_deviceId]
  iintro #HLR Hk21 HO Ha22 Hk22 Hd22 Hk
  ihave #HL := lev_of m K $$ HLR
  ihave #HR := rec_of m K $$ HLR
  iapply (wait_recv m K c 2 1 1 rfl 2 rfl rfl (by decide)) $$ HLR Hk21 HO
  iintro Hk21 Hg21 HO
  iapply (load_com c 2 1 rfl rfl) $$ Hg21
  iintro Hg21
  iapply (load_acc c 2 2 rfl rfl) $$ Ha22
  iintro Ha22
  ihave Ha22 := (has_hold c (accS 2 2) _) $$ Ha22
  iapply (put_acc c 2 2 rfl rfl (accAt m 2 2 c) rfl) $$ Ha22
  iintro Ha22
  iapply (send_step m K c 2 2 2 2 rfl rfl 1 (dev13_eq c) rfl rfl rfl rfl rfl) $$ HR Hk22 Ha22 Hd22 HO
  iintro Hk22 HO
  iapply (wpc_ret c _)
  iapply Hk $$ Hk21 HO Hg21 Hk22

/-- Part 20: the last hop of ring 3. -/
theorem part20_ok (v5 : BitVec 32) {Q : PUnit → sProp 𝕄} :
    iprop(levAts L lv ∗ records m K)
      ⊢ iprop(kit1 c 3 1 -∗ owing c (rem c 1) -∗ has c (accS 3 2) (prodAt m 3 2 c) -∗ kit0 c 3 2 -∗ hold (peer 3 c) (comS 3 2)
          -∗ (kit3 c 3 1 -∗ owing c (rem c 0) -∗ has c (accS 3 1) (accAt m 3 1 c) -∗ has c (comS 3 1) (accAt m 3 1 (frm 3 c)) -∗ kit1 c 3 2 -∗ Q ⟨⟩)
          -∗ wpc c (part20 c v5) Q) := by
  unfold part20
  simp only [k0_part20_eq_skeleton]
  unfold k0_part20_skel
  simp only [semSignalWord, semWaitWord, Prog.lift, Prog.bind_op, Prog.bind_ret, Prog.pure_eq_ret, wp_deviceId]
  iintro #HLR Hk31 HO Ha32 Hk32 Hd32 Hk
  ihave #HL := lev_of m K $$ HLR
  ihave #HR := rec_of m K $$ HLR
  iapply (wait_send m K c 3 1 1 1 rfl rfl 1 rfl rfl (by decide)) $$ HLR Hk31 HO
  iintro Hk31 Ha31 HO
  iapply (wait_recv m K c 3 1 1 rfl 1 rfl rfl (by decide)) $$ HLR Hk31 HO
  iintro Hk31 Hg31 HO
  iapply (load_com c 3 1 rfl rfl) $$ Hg31
  iintro Hg31
  iapply (load_acc c 3 2 rfl rfl) $$ Ha32
  iintro Ha32
  ihave Ha32 := (has_hold c (accS 3 2) _) $$ Ha32
  iapply (put_acc c 3 2 rfl rfl (accAt m 3 2 c) rfl) $$ Ha32
  iintro Ha32
  iapply (send_step m K c 3 2 2 2 rfl rfl 0 (dev14_eq c) rfl rfl rfl rfl rfl) $$ HR Hk32 Ha32 Hd32 HO
  iintro Hk32 HO
  iapply (wpc_ret c _)
  iapply Hk $$ Hk31 HO Ha31 Hg31 Hk32

/-- Part 21: lane 0 of the result. -/
theorem part21_ok (v7 : BitVec 32) {Q : PUnit → sProp 𝕄} :
    iprop(levAts L lv ∗ records m K)
      ⊢ iprop(kit1 c 0 2 -∗ owing c (rem c 0) -∗ has c (accS 0 3) (prodAt m 0 3 c) -∗ hold c (ovS 0)
          -∗ (kit3 c 0 2 -∗ owing c (rem c 0) -∗ has c (accS 0 2) (accAt m 0 2 c) -∗ has c (comS 0 2) (accAt m 0 2 (frm 0 c)) -∗ has c (accS 0 3) (prodAt m 0 3 c) -∗ has c (ovS 0) (outLane m 0 c) -∗ Q ⟨⟩)
          -∗ wpc c (part21 v7) Q) := by
  unfold part21
  simp only [k0_part21_eq_skeleton]
  unfold k0_part21_skel
  simp only [semSignalWord, semWaitWord, Prog.lift, Prog.bind_op, Prog.bind_ret, Prog.pure_eq_ret, wp_deviceId]
  iintro #HLR Hk02 HO Ha03 Hov0 Hk
  ihave #HL := lev_of m K $$ HLR
  ihave #HR := rec_of m K $$ HLR
  iapply (wait_send m K c 0 2 2 2 rfl rfl 0 rfl rfl (by decide)) $$ HLR Hk02 HO
  iintro Hk02 Ha02 HO
  iapply (wait_recv m K c 0 2 2 rfl 0 rfl rfl (by decide)) $$ HLR Hk02 HO
  iintro Hk02 Hg02 HO
  iapply (load_com c 0 2 rfl rfl) $$ Hg02
  iintro Hg02
  iapply (load_acc c 0 3 rfl rfl) $$ Ha03
  iintro Ha03
  iapply (put_lane c ovM 0 rfl (outLane m 0 c) rfl) $$ Hov0
  iintro Hov0
  iapply (wpc_ret c _)
  iapply Hk $$ Hk02 HO Ha02 Hg02 Ha03 Hov0

/-- Part 22: it starts to be copied out; the last landing of ring 1. -/
theorem part22_ok (v5 : BitVec 32) {Q : (FVec F S512x512 .bf16) → sProp 𝕄} :
    iprop(levAts L lv ∗ records m K)
      ⊢ iprop(has c (ovS 0) (outLane m 0 c) -∗ hold c (oS 0) -∗ semVal ((c : Thread nD τ), .dma (oQ 0)) 0 -∗ kit1 c 1 2 -∗ owing c (rem c 0) -∗ has c (accS 1 3) (prodAt m 1 3 c)
          -∗ (flyO m c 0 -∗ kit3 c 1 2 -∗ owing c (rem c 0) -∗ has c (accS 1 2) (accAt m 1 2 c) -∗ has c (comS 1 2) (accAt m 1 2 (frm 1 c)) -∗ has c (accS 1 3) (prodAt m 1 3 c) -∗ Q (k0_pay39 (accAt m 1 2 (frm 1 c)) (prodAt m 1 3 c)))
          -∗ wpc c (part22 v5) Q) := by
  unfold part22
  simp only [k0_part22_eq_skeleton]
  unfold k0_part22_skel
  simp only [semSignalWord, semWaitWord, Prog.lift, Prog.bind_op, Prog.bind_ret, Prog.pure_eq_ret, wp_deviceId]
  iintro #HLR Hov0 Ho0 Hio0 Hk12 HO Ha13 Hk
  ihave #HL := lev_of m K $$ HLR
  ihave #HR := rec_of m K $$ HLR
  iapply (copy_o m c 0 0 rfl rfl rfl rfl) $$ Hov0 Ho0 Hio0
  iintro Hfo0
  iapply (wait_send m K c 1 2 2 2 rfl rfl 0 rfl rfl (by decide)) $$ HLR Hk12 HO
  iintro Hk12 Ha12 HO
  iapply (wait_recv m K c 1 2 2 rfl 0 rfl rfl (by decide)) $$ HLR Hk12 HO
  iintro Hk12 Hg12 HO
  iapply (load_com c 1 2 rfl rfl) $$ Hg12
  iintro Hg12
  iapply (load_acc c 1 3 rfl rfl) $$ Ha13
  iintro Ha13
  iapply (wpc_ret c _)
  iapply Hk $$ Hfo0 Hk12 HO Ha12 Hg12 Ha13

/-- Part 23: lane 2 of the result; the last landing of ring 2. -/
theorem part23_ok (v7 : BitVec 32) {Q : (FVec F S512x512 .f32) → sProp 𝕄} :
    iprop(levAts L lv ∗ records m K)
      ⊢ iprop(hold c (ovS 2) -∗ hold c (oS 2) -∗ semVal ((c : Thread nD τ), .dma (oQ 1)) 0 -∗ kit1 c 2 2 -∗ owing c (rem c 0)
          -∗ (flyO m c 1 -∗ kit3 c 2 2 -∗ owing c (rem c 0) -∗ has c (accS 2 2) (accAt m 2 2 c) -∗ has c (comS 2 2) (accAt m 2 2 (frm 2 c)) -∗ Q (k0_pay41 (accAt m 2 2 (frm 2 c))))
          -∗ wpc c (part23 v7 (k0_pay39 (accAt m 1 2 (frm 1 c)) (prodAt m 1 3 c))) Q) := by
  unfold part23
  simp only [k0_part23_eq_skeleton]
  unfold k0_part23_skel
  simp only [semSignalWord, semWaitWord, Prog.lift, Prog.bind_op, Prog.bind_ret, Prog.pure_eq_ret, wp_deviceId]
  iintro #HLR Hov2 Ho2 Hio2 Hk22 HO Hk
  ihave #HL := lev_of m K $$ HLR
  ihave #HR := rec_of m K $$ HLR
  iapply (put_lane c ovM 2 rfl (outLane m 1 c) rfl) $$ Hov2
  iintro Hov2
  iapply (copy_o m c 1 2 rfl rfl rfl rfl) $$ Hov2 Ho2 Hio2
  iintro Hfo2
  iapply (wait_send m K c 2 2 2 2 rfl rfl 0 rfl rfl (by decide)) $$ HLR Hk22 HO
  iintro Hk22 Ha22 HO
  iapply (wait_recv m K c 2 2 2 rfl 0 rfl rfl (by decide)) $$ HLR Hk22 HO
  iintro Hk22 Hg22 HO
  iapply (load_com c 2 2 rfl rfl) $$ Hg22
  iintro Hg22
  iapply (wpc_ret c _)
  iapply Hk $$ Hfo2 Hk22 HO Ha22 Hg22

/-- Part 24: lane 1 of the result; the last landing of ring 3. -/
theorem part24_ok (v5 : BitVec 32) {Q : PUnit → sProp 𝕄} :
    iprop(levAts L lv ∗ records m K)
      ⊢ iprop(has c (accS 2 3) (prodAt m 2 3 c) -∗ hold c (ovS 1) -∗ hold c (oS 1) -∗ semVal ((c : Thread nD τ), .dma (oQ 2)) 0 -∗ kit1 c 3 2 -∗ owing c (rem c 0)
          -∗ (has c (accS 2 3) (prodAt m 2 3 c) -∗ flyO m c 2 -∗ kit3 c 3 2 -∗ owing c (rem c 0) -∗ has c (accS 3 2) (accAt m 3 2 c) -∗ has c (comS 3 2) (accAt m 3 2 (frm 3 c)) -∗ Q ⟨⟩)
          -∗ wpc c (part24 v5 (k0_pay41 (accAt m 2 2 (frm 2 c)))) Q) := by
  unfold part24
  simp only [k0_part24_eq_skeleton]
  unfold k0_part24_skel
  simp only [semSignalWord, semWaitWord, Prog.lift, Prog.bind_op, Prog.bind_ret, Prog.pure_eq_ret, wp_deviceId]
  iintro #HLR Ha23 Hov1 Ho1 Hio1 Hk32 HO Hk
  ihave #HL := lev_of m K $$ HLR
  ihave #HR := rec_of m K $$ HLR
  iapply (load_acc c 2 3 rfl rfl) $$ Ha23
  iintro Ha23
  iapply (put_lane c ovM 1 rfl (outLane m 2 c) rfl) $$ Hov1
  iintro Hov1
  iapply (copy_o m c 2 1 rfl rfl rfl rfl) $$ Hov1 Ho1 Hio1
  iintro Hfo1
  iapply (wait_send m K c 3 2 2 2 rfl rfl 0 rfl rfl (by decide)) $$ HLR Hk32 HO
  iintro Hk32 Ha32 HO
  iapply (wait_recv m K c 3 2 2 rfl 0 rfl rfl (by decide)) $$ HLR Hk32 HO
  iintro Hk32 Hg32 HO
  iapply (wpc_ret c _)
  iapply Hk $$ Ha23 Hfo1 Hk32 HO Ha32 Hg32

/-- Part 25: lane 3 of the result; the first two lanes are out. -/
theorem part25_ok {Q : PUnit → sProp 𝕄} :
    iprop(levAts L lv)
      ⊢ iprop(has c (comS 3 2) (accAt m 3 2 (frm 3 c)) -∗ has c (accS 3 3) (prodAt m 3 3 c) -∗ hold c (ovS 3) -∗ hold c (oS 3) -∗ semVal ((c : Thread nD τ), .dma (oQ 3)) 0 -∗ flyO m c 0 -∗ owing c (rem c 0) -∗ flyO m c 1
          -∗ (has c (comS 3 2) (accAt m 3 2 (frm 3 c)) -∗ has c (accS 3 3) (prodAt m 3 3 c) -∗ flyO m c 3 -∗ owing c (rem c 0) -∗ has c (oS 0) (outLane m 0 c) -∗ has c (ovS 0) (outLane m 0 c) -∗ semVal ((c : Thread nD τ), .dma (oQ 0)) 0 -∗ has c (oS 2) (outLane m 1 c) -∗ has c (ovS 2) (outLane m 1 c) -∗ semVal ((c : Thread nD τ), .dma (oQ 1)) 0 -∗ Q ⟨⟩)
          -∗ wpc c (part25 ) Q) := by
  unfold part25
  simp only [k0_part25_eq_skeleton]
  unfold k0_part25_skel
  simp only [semSignalWord, semWaitWord, Prog.lift, Prog.bind_op, Prog.bind_ret, Prog.pure_eq_ret, wp_deviceId]
  iintro #HL Hg32 Ha33 Hov3 Ho3 Hio3 Hfo0 HO Hfo2 Hk
  iapply (load_com c 3 2 rfl rfl) $$ Hg32
  iintro Hg32
  iapply (load_acc c 3 3 rfl rfl) $$ Ha33
  iintro Ha33
  iapply (put_lane c ovM 3 rfl (outLane m 3 c) rfl) $$ Hov3
  iintro Hov3
  iapply (copy_o m c 3 3 rfl rfl rfl rfl) $$ Hov3 Ho3 Hio3
  iintro Hfo3
  iapply (wait_o m c 0 0 rfl 0 (by decide) rfl) $$ HL Hfo0 HO
  iintro ⟨Ho0, Hov0⟩ Hio0 HO
  iapply (wait_o m c 1 2 rfl 0 (by decide) rfl) $$ HL Hfo2 HO
  iintro ⟨Ho2, Hov2⟩ Hio2 HO
  iapply (wpc_ret c _)
  iapply Hk $$ Hg32 Ha33 Hfo3 HO Ho0 Hov0 Hio0 Ho2 Hov2 Hio2

end Cert.KernelIdeal.Rings

end
-- ==== Proof.Body.lean ====
/-
# The body

The parts one after the other.
-/
module

public import proofs.«01_k».proof.Proof.Hops
public import proofs.«01_k».proof.Proof.Gen.KernelIdeal.Points
public import proofs.«01_k».proof.Proof.Gen.KernelIdeal.Launch

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × CK → ℕ) (c : Dev nD)

/-- A program then another. -/
theorem wpc_bind {α β : Type} {Q : β → sProp 𝕄} (p : Prog (TpuEff nD τ sig (Elt F) Λ₀ .tc) α) (k : α → Prog (TpuEff nD τ sig (Elt F) Λ₀ .tc) β) :
    wpc c p (fun a => wpc c (k a) Q) ⊢ wpc c (p >>= k) Q := by
  show _ ⊢ wp frame (wpE (defs₀ (F := F)) 𝒱₀ (c : Thread nD τ) none) Set.univ (p >>= k) Q
  rw [wp_bind]

omit [FloatOps F] in
theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ
omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

/-- The four rounded lanes make up the rounded `w`. -/
theorem wb_join : (iprop(has c (wbS 0) (wbl m c 0) ∗ has c (wbS 1) (wbl m c 1) ∗ has c (wbS 2) (wbl m c 2) ∗ has c (wbS 3) (wbl m c 3)) : sProp 𝕄)
    ⊢ has c wbM (wb m c) := by
  refine BIBase.Entails.trans ?_ (owns_of_rects (c : Thread nD τ) wbM fullShare lane (fun _ _ => rfl) lane_disj lane_cover (wb m c))
  rw [bigSep_fin4]
  exact BIBase.Entails.rfl

set_option maxHeartbeats 2000000 in
/-- The whole body, from the pieces a device starts with to the pieces it ends with. -/
theorem body_pieces (t : Fin cfg0.N) {Q : PUnit → sProp 𝕄} :
    iprop(levAts L lv ∗ records m K)
      ⊢ iprop(has c (xS c 0) (xc m c 0) -∗ hold c (xvS c 0) -∗ semVal ((c : Thread nD τ), .dma (xQ 0)) 0 -∗ has c (wS 0) (wc m c 0) -∗ hold c (wvS 0) -∗ semVal ((c : Thread nD τ), .dma (wQ 0)) 0 -∗ hold c (wbS 0) -∗ hold c (ovS 0) -∗ hold c (oS 0) -∗ semVal ((c : Thread nD τ), .dma (oQ 0)) 0 -∗ landing c 0 -∗ hold c (accS 0 0) -∗ hold c (accS 0 1) -∗ hold c (accS 0 2) -∗ hold c (accS 0 3) -∗ kit0 c 0 0 -∗ kit0 c 0 1 -∗ kit0 c 0 2 -∗ has c (xS c 1) (xc m c 1) -∗ hold c (xvS c 1) -∗ semVal ((c : Thread nD τ), .dma (xQ 1)) 0 -∗ has c (wS 1) (wc m c 1) -∗ hold c (wvS 1) -∗ semVal ((c : Thread nD τ), .dma (wQ 1)) 0 -∗ hold c (wbS 1) -∗ hold c (ovS 1) -∗ hold c (oS 1) -∗ semVal ((c : Thread nD τ), .dma (oQ 1)) 0 -∗ landing c 1 -∗ hold c (accS 1 0) -∗ hold c (accS 1 1) -∗ hold c (accS 1 2) -∗ hold c (accS 1 3) -∗ kit0 c 1 0 -∗ kit0 c 1 1 -∗ kit0 c 1 2 -∗ has c (xS c 2) (xc m c 2) -∗ hold c (xvS c 2) -∗ semVal ((c : Thread nD τ), .dma (xQ 2)) 0 -∗ has c (wS 2) (wc m c 2) -∗ hold c (wvS 2) -∗ semVal ((c : Thread nD τ), .dma (wQ 2)) 0 -∗ hold c (wbS 2) -∗ hold c (ovS 2) -∗ hold c (oS 2) -∗ semVal ((c : Thread nD τ), .dma (oQ 2)) 0 -∗ landing c 2 -∗ hold c (accS 2 0) -∗ hold c (accS 2 1) -∗ hold c (accS 2 2) -∗ hold c (accS 2 3) -∗ kit0 c 2 0 -∗ kit0 c 2 1 -∗ kit0 c 2 2 -∗ has c (xS c 3) (xc m c 3) -∗ hold c (xvS c 3) -∗ semVal ((c : Thread nD τ), .dma (xQ 3)) 0 -∗ has c (wS 3) (wc m c 3) -∗ hold c (wvS 3) -∗ semVal ((c : Thread nD τ), .dma (wQ 3)) 0 -∗ hold c (wbS 3) -∗ hold c (ovS 3) -∗ hold c (oS 3) -∗ semVal ((c : Thread nD τ), .dma (oQ 3)) 0 -∗ landing c 3 -∗ hold c (accS 3 0) -∗ hold c (accS 3 1) -∗ hold c (accS 3 2) -∗ hold c (accS 3 3) -∗ kit0 c 3 0 -∗ kit0 c 3 1 -∗ kit0 c 3 2 -∗ owing c (owed₀ c) -∗ dutyTok ER (barCell (prv c)) 0 true -∗ dutyTok ER (barCell (nxt c)) 0 false -∗ atPos ER (barCell c) 0 ∅ 0 -∗ cred (tallyAt (barCell c) () 2)
          -∗ (has c (accS 0 3) (prodAt m 0 3 c) -∗ kit3 c 0 0 -∗ kit3 c 0 1 -∗ kit3 c 0 2 -∗ has c (accS 1 3) (prodAt m 1 3 c) -∗ kit3 c 1 0 -∗ kit3 c 1 1 -∗ kit3 c 1 2 -∗ has c (accS 2 3) (prodAt m 2 3 c) -∗ kit3 c 2 0 -∗ kit3 c 2 1 -∗ kit3 c 2 2 -∗ has c (accS 3 3) (prodAt m 3 3 c) -∗ kit3 c 3 0 -∗ kit3 c 3 1 -∗ kit3 c 3 2 -∗ owing c (rem c 0) -∗ semVal (barCell c) 0 -∗ has c (xvS c 0) (xc m c 0) -∗ has c (xS c 0) (xc m c 0) -∗ semVal ((c : Thread nD τ), .dma (xQ 0)) 0 -∗ has c (wvS 0) (wc m c 0) -∗ has c (wS 0) (wc m c 0) -∗ semVal ((c : Thread nD τ), .dma (wQ 0)) 0 -∗ has c (xvS c 1) (xc m c 1) -∗ has c (xS c 1) (xc m c 1) -∗ semVal ((c : Thread nD τ), .dma (xQ 1)) 0 -∗ has c (wvS 2) (wc m c 2) -∗ has c (wS 2) (wc m c 2) -∗ semVal ((c : Thread nD τ), .dma (wQ 2)) 0 -∗ has c (wvS 1) (wc m c 1) -∗ has c (wS 1) (wc m c 1) -∗ semVal ((c : Thread nD τ), .dma (wQ 1)) 0 -∗ has c (wvS 3) (wc m c 3) -∗ has c (wS 3) (wc m c 3) -∗ semVal ((c : Thread nD τ), .dma (wQ 3)) 0 -∗ has c wbM (wb m c) -∗ has c (xvS c 2) (xc m c 2) -∗ has c (xS c 2) (xc m c 2) -∗ semVal ((c : Thread nD τ), .dma (xQ 2)) 0 -∗ has c (xvS c 3) (xc m c 3) -∗ has c (xS c 3) (xc m c 3) -∗ semVal ((c : Thread nD τ), .dma (xQ 3)) 0 -∗ has c (accS 0 0) (accAt m 0 0 c) -∗ has c (comS 0 0) (accAt m 0 0 (frm 0 c)) -∗ has c (accS 1 0) (accAt m 1 0 c) -∗ has c (comS 1 0) (accAt m 1 0 (frm 1 c)) -∗ has c (accS 2 0) (accAt m 2 0 c) -∗ has c (comS 2 0) (accAt m 2 0 (frm 2 c)) -∗ has c (accS 3 0) (accAt m 3 0 c) -∗ has c (comS 3 0) (accAt m 3 0 (frm 3 c)) -∗ has c (accS 0 1) (accAt m 0 1 c) -∗ has c (comS 0 1) (accAt m 0 1 (frm 0 c)) -∗ has c (accS 1 1) (accAt m 1 1 c) -∗ has c (comS 1 1) (accAt m 1 1 (frm 1 c)) -∗ has c (accS 2 1) (accAt m 2 1 c) -∗ has c (comS 2 1) (accAt m 2 1 (frm 2 c)) -∗ has c (accS 3 1) (accAt m 3 1 c) -∗ has c (comS 3 1) (accAt m 3 1 (frm 3 c)) -∗ has c (accS 0 2) (accAt m 0 2 c) -∗ has c (comS 0 2) (accAt m 0 2 (frm 0 c)) -∗ has c (accS 1 2) (accAt m 1 2 c) -∗ has c (comS 1 2) (accAt m 1 2 (frm 1 c)) -∗ has c (accS 2 2) (accAt m 2 2 c) -∗ has c (comS 2 2) (accAt m 2 2 (frm 2 c)) -∗ has c (accS 3 2) (accAt m 3 2 c) -∗ has c (comS 3 2) (accAt m 3 2 (frm 3 c)) -∗ has c (oS 0) (outLane m 0 c) -∗ has c (ovS 0) (outLane m 0 c) -∗ semVal ((c : Thread nD τ), .dma (oQ 0)) 0 -∗ has c (oS 2) (outLane m 1 c) -∗ has c (ovS 2) (outLane m 1 c) -∗ semVal ((c : Thread nD τ), .dma (oQ 1)) 0 -∗ has c (oS 1) (outLane m 2 c) -∗ has c (ovS 1) (outLane m 2 c) -∗ semVal ((c : Thread nD τ), .dma (oQ 2)) 0 -∗ has c (oS 3) (outLane m 3 c) -∗ has c (ovS 3) (outLane m 3 c) -∗ semVal ((c : Thread nD τ), .dma (oQ 3)) 0 -∗ Q ⟨⟩)
          -∗ wpc c (bodyAt0 t) Q) := by
  unfold bodyAt0
  simp only [cc0_body_eq_skeleton]
  unfold cc0_body_skel
  iintro #HLR Hx0 Hxv0 Hix0 Hw0 Hwv0 Hiw0 Hwb0 Hov0 Ho0 Hio0 Hln0 Ha00 Ha01 Ha02 Ha03 Hk00 Hk01 Hk02 Hx1 Hxv1 Hix1 Hw1 Hwv1 Hiw1 Hwb1 Hov1 Ho1 Hio2 Hln1 Ha10 Ha11 Ha12 Ha13 Hk10 Hk11 Hk12 Hx2 Hxv2 Hix2 Hw2 Hwv2 Hiw2 Hwb2 Hov2 Ho2 Hio1 Hln2 Ha20 Ha21 Ha22 Ha23 Hk20 Hk21 Hk22 Hx3 Hxv3 Hix3 Hw3 Hwv3 Hiw3 Hwb3 Hov3 Ho3 Hio3 Hln3 Ha30 Ha31 Ha32 Ha33 Hk30 Hk31 Hk32 HO Htp Htn Hab Hcb Hk
  ihave #HL := lev_of m K $$ HLR
  ihave #HR := rec_of m K $$ HLR
  iapply (wpc_bind c _ _)
  iapply (part1_ok m c) $$ Hx0 Hxv0 Hix0
  iintro Hfx0 %v2 %v5 %v7
  iapply (wpc_bind c _ _)
  iapply (part2_ok m c) $$ Hw0 Hwv0 Hiw0 Hx1 Hxv1 Hix1 Hw2 Hwv2 Hiw2 Hw1 Hwv1 Hiw1 Hw3 Hwv3 Hiw3 Hx2 Hxv2 Hix2 Hx3 Hxv3 Hix3
  iintro Hfw0 Hfx1 Hfw2 Hfw1 Hfw3 Hfx2 Hfx3
  iapply (wpc_bind c _ _)
  iapply (part3_ok m K c _ _ _) $$ HLR Htp Hln0 Hln2 HO Htn Hln1 Hln3 Hab Hcb Hfx0 Hfw0 Hwb0
  iintro HO Hzb Hpl0 Hpl1 Hpl2 Hpl3 Hxv0 Hx0 Hix0 Hwv0 Hw0 Hiw0 Hwb0
  unfold landing
  icases Hpl0 with ⟨Hd00, Hd01, Hd02⟩
  skip
  icases Hpl1 with ⟨Hd10, Hd11, Hd12⟩
  skip
  icases Hpl2 with ⟨Hd20, Hd21, Hd22⟩
  skip
  icases Hpl3 with ⟨Hd30, Hd31, Hd32⟩
  iapply (wpc_bind c _ _)
  iapply (part4_ok m K c _ _) $$ HLR Ha00 Hk00 Hd00 HO Hfx1 Hfw2 Hwb2
  iintro Hk00 HO Hxv1 Hx1 Hix1 Hwv2 Hw2 Hiw2 Hwb2 %v110
  iapply (wpc_bind c _ _)
  iapply (part5_ok m K c _ _) $$ HLR Hxv1 Hwb2 Ha10 Hk10 Hd10 HO Hfw1
  iintro Hxv1 Hwb2 Hk10 HO Hwv1 Hw1 Hiw1
  iapply (wpc_bind c _ _)
  iapply (part6_ok m K c _ _) $$ HLR Hwb1 Hxv0 Ha20 Hk20 Hd20 HO Hfw3
  iintro Hwb1 Hxv0 Hk20 HO Hwv3 Hw3 Hiw3
  iapply (wpc_bind c _ _)
  iapply (part7_ok m K c _ _) $$ HR Hwv3 Hwb3 Hxv1 Ha30 Hk30 Hd30 HO
  iintro Hwv3 Hwb3 Hxv1 Hk30 HO
  ihave HwB := (wb_join m c) $$ [Hwb0 Hwb1 Hwb2 Hwb3]
  · isplitl [Hwb0]; · iexact Hwb0
    isplitl [Hwb1]; · iexact Hwb1
    isplitl [Hwb2] <;> iassumption
  iapply (wpc_bind c _ _)
  iapply (part8_ok m c _) $$ HL Hfx2 HO HwB Ha01 Ha21 Ha11 Ha31
  iintro HO Hxv2 Hx2 Hix2 HwB Ha01 Ha21 Ha11 Ha31 %v230 %v194
  iapply (wpc_bind c _ _)
  iapply (part9_ok m c _ _ _) $$ Hxv1 HwB Ha02 Ha22 Hxv0 Ha12
  iintro Hxv1 HwB Ha02 Ha22 Hxv0 Ha12
  iapply (wpc_bind c _ _)
  iapply (part10_ok m c _) $$ HL Ha32 Hfx3 HO HwB Ha03 Ha23 Ha13
  iintro Ha32 HO Hxv3 Hx3 Hix3 HwB Ha03 Ha23 Ha13
  iapply (wpc_bind c _ _)
  iapply (part11_ok m K c _) $$ HLR Ha33 Hk00 HO Ha01
  iintro Ha33 Hk00 HO Ha00 Hg00 Ha01
  iapply (wpc_bind c _ _)
  iapply (part12_ok m K c _ _) $$ HLR Ha01 Hk01 Hd01 HO Hk10
  iintro Hk01 HO Hk10 Ha10 Hg10
  iapply (wpc_bind c _ _)
  iapply (part13_ok m K c _ _) $$ HLR Hg10 Ha11 Hk11 Hd11 HO Hk20
  iintro Hg10 Hk11 HO Hk20 Ha20
  iapply (wpc_bind c _ _)
  iapply (part14_ok m K c _) $$ HLR Hk20 HO Ha21 Hk21 Hd21
  iintro Hk20 HO Hg20 Hk21
  iapply (wpc_bind c _ _)
  iapply (part15_ok m K c _) $$ HLR Hk30 HO Ha31
  iintro Hk30 HO Ha30 Hg30 Ha31
  iapply (wpc_bind c _ _)
  iapply (part16_ok m K c _) $$ HLR Hk31 Ha31 Hd31 HO Hk01 Ha02
  iintro Hk31 HO Hk01 Ha01 Hg01 Ha02
  iapply (wpc_bind c _ _)
  iapply (part17_ok m K c _ _) $$ HLR Hk02 Ha02 Hd02 HO Hk11
  iintro Hk02 HO Hk11 Ha11 Hg11
  iapply (wpc_bind c _ _)
  iapply (part18_ok m K c _ _) $$ HLR Ha12 Hk12 Hd12 HO Hk21
  iintro Hk12 HO Hk21 Ha21
  iapply (wpc_bind c _ _)
  iapply (part19_ok m K c _) $$ HLR Hk21 HO Ha22 Hk22 Hd22
  iintro Hk21 HO Hg21 Hk22
  iapply (wpc_bind c _ _)
  iapply (part20_ok m K c _) $$ HLR Hk31 HO Ha32 Hk32 Hd32
  iintro Hk31 HO Ha31 Hg31 Hk32
  iapply (wpc_bind c _ _)
  iapply (part21_ok m K c _) $$ HLR Hk02 HO Ha03 Hov0
  iintro Hk02 HO Ha02 Hg02 Ha03 Hov0
  iapply (wpc_bind c _ _)
  iapply (part22_ok m K c _) $$ HLR Hov0 Ho0 Hio0 Hk12 HO Ha13
  iintro Hfo0 Hk12 HO Ha12 Hg12 Ha13
  iapply (wpc_bind c _ _)
  iapply (part23_ok m K c _) $$ HLR Hov2 Ho2 Hio2 Hk22 HO
  iintro Hfo2 Hk22 HO Ha22 Hg22
  iapply (wpc_bind c _ _)
  iapply (part24_ok m K c _) $$ HLR Ha23 Hov1 Ho1 Hio1 Hk32 HO
  iintro Ha23 Hfo1 Hk32 HO Ha32 Hg32
  iapply (wpc_bind c _ _)
  iapply (part25_ok m c) $$ HL Hg32 Ha33 Hov3 Ho3 Hio3 Hfo0 HO Hfo2
  iintro Hg32 Ha33 Hfo3 HO Ho0 Hov0 Hio0 Ho2 Hov2 Hio2
  simp only [Prog.lift, Prog.bind_op, Prog.bind_ret, Prog.pure_eq_ret]
  iapply (wait_o m c 2 1 rfl 0 (by decide) rfl) $$ HL Hfo1 HO
  iintro ⟨Ho1, Hov1⟩ Hio1 HO
  iapply (wait_o m c 3 3 rfl 0 (by decide) rfl) $$ HL Hfo3 HO
  iintro ⟨Ho3, Hov3⟩ Hio3 HO
  iapply (wpc_ret c _)
  iapply Hk $$ Ha03 Hk00 Hk01 Hk02 Ha13 Hk10 Hk11 Hk12 Ha23 Hk20 Hk21 Hk22 Ha33 Hk30 Hk31 Hk32 HO Hzb Hxv0 Hx0 Hix0 Hwv0 Hw0 Hiw0 Hxv1 Hx1 Hix1 Hwv2 Hw2 Hiw2 Hwv1 Hw1 Hiw1 Hwv3 Hw3 Hiw3 HwB Hxv2 Hx2 Hix2 Hxv3 Hx3 Hix3 Ha00 Hg00 Ha10 Hg10 Ha20 Hg20 Ha30 Hg30 Ha01 Hg01 Ha11 Hg11 Ha21 Hg21 Ha31 Hg31 Ha02 Hg02 Ha12 Hg12 Ha22 Hg22 Ha32 Hg32 Ho0 Hov0 Hio0 Ho2 Hov2 Hio2 Ho1 Hov1 Hio1 Ho3 Hov3 Hio3

end Cert.KernelIdeal.Rings

end
-- ==== Proof.Whole.lean ====
/-
# The body between whole buffers

A buffer is split into its pieces before the body and put together again after it.
-/
module

public import proofs.«01_k».proof.Proof.Body

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (c : Dev nD)

/-! ## A buffer and its pieces -/

section Rects
variable {T : Type} [Fintype T] [DecidableEq T] {sp : Space} {sh : Shape} {e : EltTy} (M : Memref sig .tc sp sh e) (r : T → Rect sh)
  (hr : ∀ t a, (r t).stride a = 1) (hd : ∀ t t', t ≠ t' → Disjoint (r t).set (r t').set)
  (hcov : (Finset.univ : Finset T).biUnion (fun t => (r t).set) = Finset.univ)

include hd hcov in
/-- A held memref is its pieces, each held, -/
theorem hold_split : (hold c M : sProp 𝕄) ⊢ bigSep Finset.univ fun t => hold c (M.slice (r t) (hr t)) := by
  have h : ∀ X, (has c M X : sProp 𝕄) ⊢ bigSep Finset.univ fun t => hold c (M.slice (r t) (hr t)) := fun X =>
    (owns_rects (c : Thread nD τ) M fullShare r hr hd hcov X).trans (bigSep_mono fun t _ => has_hold c (M.slice (r t) (hr t)) _)
  refine (show (hold c M : sProp 𝕄) ⊢ iprop(∃ X : sh.Idx → Elt F e, has c M X) from BIBase.Entails.rfl).trans ?_
  iintro ⟨%X, H⟩
  iapply (h X) $$ H

include hd hcov in
/-- and pieces held at any contents make up the memref, held. -/
theorem hold_join (Y : (t : T) → (r t).shape.Idx → Elt F e) :
    (bigSep Finset.univ fun t => has c (M.slice (r t) (hr t)) (Y t) : sProp 𝕄) ⊢ hold c M := by
  classical
  have hinj : Function.Injective (fun p : (t : T) × (r t).shape.Idx => (r p.1).emb p.2) := by
    rintro ⟨t, j⟩ ⟨t', j'⟩ h
    have h' : (r t).emb j = (r t').emb j' := h
    have ht : t = t' := by
      by_contra hne
      have h1 : (r t).emb j ∈ (r t).set := (r t).map_emb_univ ▸ Finset.mem_map_of_mem _ (Finset.mem_univ j)
      have h2 : (r t).emb j ∈ (r t').set := by
        rw [h']; exact (r t').map_emb_univ ▸ Finset.mem_map_of_mem _ (Finset.mem_univ j')
      exact Finset.disjoint_left.mp (hd t t' hne) h1 h2
    subst ht
    exact congrArg _ ((r t).emb.injective h')
  have e : ∀ t, Y t = fun j => Function.extend (fun p : (t : T) × (r t).shape.Idx => (r p.1).emb p.2) (fun p => Y p.1 p.2)
      (fun _ => Classical.arbitrary _) ((r t).emb j) := fun t => funext fun j => (hinj.extend_apply (fun p => Y p.1 p.2) _ ⟨t, j⟩).symm
  rw [bigSep_congr (s := Finset.univ) fun t _ => congrArg (has c (M.slice (r t) (hr t))) (e t)]
  exact (owns_of_rects (c : Thread nD τ) M fullShare r hr hd hcov _).trans (has_hold c M _)
end Rects

/-! ## Each buffer of the kernel -/

theorem split_xv : (hold c xvM : sProp 𝕄) ⊢ iprop(hold c (xvS c 0) ∗ hold c (xvS c 1) ∗ hold c (xvS c 2) ∗ hold c (xvS c 3)) := by
  rw [← bigSep_fin4 (fun t => hold c (xvS c t))]
  exact hold_split c xvM (xR c) (fun _ _ => rfl) (xR_disj c) (xR_cover c)

theorem join_xv (X0 X1 X2 X3 : S512x512.Idx → Elt F .f32) : (iprop(has c (xvS c 0) X0 ∗ has c (xvS c 1) X1 ∗ has c (xvS c 2) X2 ∗ has c (xvS c 3) X3) : sProp 𝕄) ⊢ hold c xvM := by
  refine BIBase.Entails.trans ?_ (hold_join c xvM (xR c) (fun _ _ => rfl) (xR_disj c) (xR_cover c) ![X0, X1, X2, X3])
  rw [bigSep_fin4]
  exact BIBase.Entails.rfl

theorem split_wv : (hold c wvM : sProp 𝕄) ⊢ iprop(hold c (wvS 0) ∗ hold c (wvS 1) ∗ hold c (wvS 2) ∗ hold c (wvS 3)) := by
  rw [← bigSep_fin4 (fun t => hold c (wvS t))]
  exact hold_split c wvM lane (fun _ _ => rfl) lane_disj lane_cover

theorem join_wv (X0 X1 X2 X3 : S512x512.Idx → Elt F .f32) : (iprop(has c (wvS 0) X0 ∗ has c (wvS 1) X1 ∗ has c (wvS 2) X2 ∗ has c (wvS 3) X3) : sProp 𝕄) ⊢ hold c wvM := by
  refine BIBase.Entails.trans ?_ (hold_join c wvM lane (fun _ _ => rfl) lane_disj lane_cover ![X0, X1, X2, X3])
  rw [bigSep_fin4]
  exact BIBase.Entails.rfl

theorem split_ov : (hold c ovM : sProp 𝕄) ⊢ iprop(hold c (ovS 0) ∗ hold c (ovS 1) ∗ hold c (ovS 2) ∗ hold c (ovS 3)) := by
  rw [← bigSep_fin4 (fun t => hold c (ovS t))]
  exact hold_split c ovM lane (fun _ _ => rfl) lane_disj lane_cover

theorem join_ov (X0 X1 X2 X3 : S512x512.Idx → Elt F .bf16) : (iprop(has c (ovS 0) X0 ∗ has c (ovS 1) X1 ∗ has c (ovS 2) X2 ∗ has c (ovS 3) X3) : sProp 𝕄) ⊢ hold c ovM := by
  refine BIBase.Entails.trans ?_ (hold_join c ovM lane (fun _ _ => rfl) lane_disj lane_cover ![X0, X1, X2, X3])
  rw [bigSep_fin4]
  exact BIBase.Entails.rfl

theorem split_wb : (hold c wbM : sProp 𝕄) ⊢ iprop(hold c (wbS 0) ∗ hold c (wbS 1) ∗ hold c (wbS 2) ∗ hold c (wbS 3)) := by
  rw [← bigSep_fin4 (fun t => hold c (wbS t))]
  exact hold_split c wbM lane (fun _ _ => rfl) lane_disj lane_cover

theorem split_o : (hold c oM : sProp 𝕄) ⊢ iprop(hold c (oS 0) ∗ hold c (oS 1) ∗ hold c (oS 2) ∗ hold c (oS 3)) := by
  rw [← bigSep_fin4 (fun t => hold c (oS t))]
  exact hold_split c oM lane (fun _ _ => rfl) lane_disj lane_cover

theorem split_acc (r : Fin 4) : (hold c (accM r) : sProp 𝕄) ⊢ iprop(hold c (accS r 0) ∗ hold c (accS r 1) ∗ hold c (accS r 2) ∗ hold c (accS r 3)) := by
  rw [← bigSep_fin4 (fun t => hold c (accS r t))]
  exact hold_split c (accM r) slot4 (fun _ _ => rfl) slot4_disj slot4_cover

theorem join_acc (r : Fin 4) (X0 X1 X2 X3 : S1x512x512.Idx → Elt F .bf16) : (iprop(has c (accS r 0) X0 ∗ has c (accS r 1) X1 ∗ has c (accS r 2) X2 ∗ has c (accS r 3) X3) : sProp 𝕄) ⊢ hold c (accM r) := by
  refine BIBase.Entails.trans ?_ (hold_join c (accM r) slot4 (fun _ _ => rfl) slot4_disj slot4_cover ![X0, X1, X2, X3])
  rw [bigSep_fin4]
  exact BIBase.Entails.rfl

theorem split_com (r : Fin 4) : (hold c (comM r) : sProp 𝕄) ⊢ landing c r := by
  unfold landing
  rw [← bigSep_fin3 (fun t => hold c (comS r t))]
  exact hold_split c (comM r) slot3 (fun _ _ => rfl) slot3_disj slot3_cover

theorem join_com (r : Fin 4) (X0 X1 X2 : S1x512x512.Idx → Elt F .bf16) : (iprop(has c (comS r 0) X0 ∗ has c (comS r 1) X1 ∗ has c (comS r 2) X2) : sProp 𝕄) ⊢ hold c (comM r) := by
  refine BIBase.Entails.trans ?_ (hold_join c (comM r) slot3 (fun _ _ => rfl) slot3_disj slot3_cover ![X0, X1, X2])
  rw [bigSep_fin3]
  exact BIBase.Entails.rfl

theorem split_x : (has c xM (x0 m c) : sProp 𝕄) ⊢ iprop(has c (xS c 0) (xc m c 0) ∗ has c (xS c 1) (xc m c 1) ∗ has c (xS c 2) (xc m c 2) ∗ has c (xS c 3) (xc m c 3)) := by
  refine (owns_rects (c : Thread nD τ) xM fullShare (xR c) (fun _ _ => rfl) (xR_disj c) (xR_cover c) (x0 m c)).trans ?_
  rw [bigSep_fin4]
  exact BIBase.Entails.rfl
theorem join_x : (iprop(has c (xS c 0) (xc m c 0) ∗ has c (xS c 1) (xc m c 1) ∗ has c (xS c 2) (xc m c 2) ∗ has c (xS c 3) (xc m c 3)) : sProp 𝕄) ⊢ has c xM (x0 m c) := by
  refine BIBase.Entails.trans ?_ (owns_of_rects (c : Thread nD τ) xM fullShare (xR c) (fun _ _ => rfl) (xR_disj c) (xR_cover c) (x0 m c))
  rw [bigSep_fin4]
  exact BIBase.Entails.rfl
theorem split_w : (has c wM (w0 m c) : sProp 𝕄) ⊢ iprop(has c (wS 0) (wc m c 0) ∗ has c (wS 1) (wc m c 1) ∗ has c (wS 2) (wc m c 2) ∗ has c (wS 3) (wc m c 3)) := by
  refine (owns_rects (c : Thread nD τ) wM fullShare lane (fun _ _ => rfl) lane_disj lane_cover (w0 m c)).trans ?_
  rw [bigSep_fin4]
  exact BIBase.Entails.rfl
theorem join_w : (iprop(has c (wS 0) (wc m c 0) ∗ has c (wS 1) (wc m c 1) ∗ has c (wS 2) (wc m c 2) ∗ has c (wS 3) (wc m c 3)) : sProp 𝕄) ⊢ has c wM (w0 m c) := by
  refine BIBase.Entails.trans ?_ (owns_of_rects (c : Thread nD τ) wM fullShare lane (fun _ _ => rfl) lane_disj lane_cover (w0 m c))
  rw [bigSep_fin4]
  exact BIBase.Entails.rfl
/-- The four lanes of the result make up the result. -/
theorem join_o : (iprop(has c (oS 0) (outLane m 0 c) ∗ has c (oS 1) (outLane m 2 c) ∗ has c (oS 2) (outLane m 1 c) ∗ has c (oS 3) (outLane m 3 c)) : sProp 𝕄)
    ⊢ has c oM (outB m c) := by
  have h : (bigSep Finset.univ fun l => has c (oS l) (outLane m (laneOf l) c) : sProp 𝕄) ⊢ has c oM (outB m c) :=
    (Entails.of_eq (bigSep_congr fun l _ => congrArg (has c (oS l)) (funext fun j => (outB_lane m c l j).symm))).trans
      (owns_of_rects (c : Thread nD τ) oM fullShare lane (fun _ _ => rfl) lane_disj lane_cover (outB m c))
  rw [bigSep_fin4] at h
  exact h

/-! ## The body between whole buffers -/

/-- The kernel's scratch buffers, at some contents. -/
def scr : sProp 𝕄 :=
  iprop(hold (F := F) c xvM ∗ hold (F := F) c wvM ∗ hold (F := F) c ovM ∗ hold (F := F) c wbM
    ∗ (bigSep Finset.univ fun r => hold (F := F) c (accM r)) ∗ bigSep Finset.univ fun r => hold (F := F) c (comM r))

/-- The semaphores of the copies which a device makes within its own memory. -/
def own12 : sProp 𝕄 :=
  iprop((bigSep Finset.univ fun t => semVal ((c : Thread nD τ), .dma (xQ t)) 0) ∗ (bigSep Finset.univ fun l => semVal ((c : Thread nD τ), .dma (wQ l)) 0)
    ∗ bigSep Finset.univ fun r => semVal ((c : Thread nD τ), .dma (oQ r)) 0)

/-- The memory of the device: both arguments, and the result before -/
def mem₀ : sProp 𝕄 := iprop(has c xM (x0 m c) ∗ has c wM (w0 m c) ∗ hold c oM)
/-- and after. -/
def mem₁ : sProp 𝕄 := iprop(has c xM (x0 m c) ∗ has c wM (w0 m c) ∗ has c oM (outB m c))

/-- What all hops of a device take, -/
def hops₀ : sProp 𝕄 := bigSep Finset.univ fun r => bigSep Finset.univ fun s => kit0 (F := F) c r s
/-- and leave. -/
def hops₁ : sProp 𝕄 := bigSep Finset.univ fun r => bigSep Finset.univ fun s => kit3 (F := F) c r s

/-- The device's side of the barrier. -/
def gate : sProp 𝕄 :=
  iprop(dutyTok ER (barCell (prv c)) 0 true ∗ dutyTok ER (barCell (nxt c)) 0 false ∗ atPos ER (barCell c) 0 ∅ 0 ∗ cred (tallyAt (barCell c) () 2))

/-- Before the body, -/
def start : sProp 𝕄 := iprop((∃ K, records m K) ∗ levAts L lv ∗ gate c ∗ hops₀ c ∗ own12 c ∗ mem₀ m c)
def before : sProp 𝕄 := iprop(start m c ∗ scr c)
/-- and after it. -/
def after : sProp 𝕄 := iprop(mem₁ m c ∗ own12 c ∗ hops₁ c ∗ semVal (barCell c) 0 ∗ scr c)

set_option maxHeartbeats 1000000 in
/-- The body, from what the launch deals a device to what the device ends with. -/
theorem body_whole (t : Fin cfg0.N) {Q : PUnit → sProp 𝕄} :
    iprop(before m c ∗ owing c (owed₀ c) ∗ (after m c -∗ owing c (rem c 0) -∗ Q ⟨⟩)) ⊢ wpc c (bodyAt0 t) Q := by
  unfold before start gate hops₀ own12 mem₀ scr
  simp only [bigSep_fin4, bigSep_fin3]
  iintro ⟨⟨⟨⟨%K, #HR⟩, #HL, ⟨Htp, Htn, Hab, Hcb⟩, ⟨⟨Hk00, Hk01, Hk02⟩, ⟨Hk10, Hk11, Hk12⟩, ⟨Hk20, Hk21, Hk22⟩, ⟨Hk30, Hk31, Hk32⟩⟩, ⟨⟨Hix0, Hix1, Hix2, Hix3⟩, ⟨Hiw0, Hiw1, Hiw2, Hiw3⟩, Hio0, Hio2, Hio1, Hio3⟩, Hx, Hw, Ho⟩, Hxv, Hwv, Hov, Hwb, ⟨HA0, HA1, HA2, HA3⟩, HC0, HC1, HC2, HC3⟩, HO, Hk⟩
  ihave HH := (split_x m c) $$ Hx
  icases HH with ⟨Hx0, Hx1, Hx2, Hx3⟩
  ihave HH := (split_w m c) $$ Hw
  icases HH with ⟨Hw0, Hw1, Hw2, Hw3⟩
  ihave HH := (split_o c) $$ Ho
  icases HH with ⟨Ho0, Ho1, Ho2, Ho3⟩
  ihave HH := (split_xv c) $$ Hxv
  icases HH with ⟨Hxv0, Hxv1, Hxv2, Hxv3⟩
  ihave HH := (split_wv c) $$ Hwv
  icases HH with ⟨Hwv0, Hwv1, Hwv2, Hwv3⟩
  ihave HH := (split_ov c) $$ Hov
  icases HH with ⟨Hov0, Hov1, Hov2, Hov3⟩
  ihave HH := (split_wb c) $$ Hwb
  icases HH with ⟨Hwb0, Hwb1, Hwb2, Hwb3⟩
  ihave HH := (split_acc c 0) $$ HA0
  icases HH with ⟨Ha00, Ha01, Ha02, Ha03⟩
  ihave Hln0 := (split_com c 0) $$ HC0
  ihave HH := (split_acc c 1) $$ HA1
  icases HH with ⟨Ha10, Ha11, Ha12, Ha13⟩
  ihave Hln1 := (split_com c 1) $$ HC1
  ihave HH := (split_acc c 2) $$ HA2
  icases HH with ⟨Ha20, Ha21, Ha22, Ha23⟩
  ihave Hln2 := (split_com c 2) $$ HC2
  ihave HH := (split_acc c 3) $$ HA3
  icases HH with ⟨Ha30, Ha31, Ha32, Ha33⟩
  ihave Hln3 := (split_com c 3) $$ HC3
  iapply (body_pieces m K c t) $$ [] Hx0 Hxv0 Hix0 Hw0 Hwv0 Hiw0 Hwb0 Hov0 Ho0 Hio0 Hln0 Ha00 Ha01 Ha02 Ha03 Hk00 Hk01 Hk02 Hx1 Hxv1 Hix1 Hw1 Hwv1 Hiw1 Hwb1 Hov1 Ho1 Hio2 Hln1 Ha10 Ha11 Ha12 Ha13 Hk10 Hk11 Hk12 Hx2 Hxv2 Hix2 Hw2 Hwv2 Hiw2 Hwb2 Hov2 Ho2 Hio1 Hln2 Ha20 Ha21 Ha22 Ha23 Hk20 Hk21 Hk22 Hx3 Hxv3 Hix3 Hw3 Hwv3 Hiw3 Hwb3 Hov3 Ho3 Hio3 Hln3 Ha30 Ha31 Ha32 Ha33 Hk30 Hk31 Hk32 HO Htp Htn Hab Hcb
  · isplitl; · iexact HL
    iexact HR
  iintro Ha03 Hk00 Hk01 Hk02 Ha13 Hk10 Hk11 Hk12 Ha23 Hk20 Hk21 Hk22 Ha33 Hk30 Hk31 Hk32 HO Hzb Hxv0 Hx0 Hix0 Hwv0 Hw0 Hiw0 Hxv1 Hx1 Hix1 Hwv2 Hw2 Hiw2 Hwv1 Hw1 Hiw1 Hwv3 Hw3 Hiw3 HwB Hxv2 Hx2 Hix2 Hxv3 Hx3 Hix3 Ha00 Hg00 Ha10 Hg10 Ha20 Hg20 Ha30 Hg30 Ha01 Hg01 Ha11 Hg11 Ha21 Hg21 Ha31 Hg31 Ha02 Hg02 Ha12 Hg12 Ha22 Hg22 Ha32 Hg32 Ho0 Hov0 Hio0 Ho2 Hov2 Hio2 Ho1 Hov1 Hio1 Ho3 Hov3 Hio3
  iapply Hk $$ [- HO] HO
  unfold after mem₁ own12 hops₁ scr
  simp only [bigSep_fin4, bigSep_fin3]
  isplitl [Hx0 Hx1 Hx2 Hx3 Hw0 Hw1 Hw2 Hw3 Ho0 Ho1 Ho2 Ho3]
  · isplitl [Hx0 Hx1 Hx2 Hx3]
    · iapply (join_x m c)
      isplitl [Hx0]
      · iexact Hx0
      isplitl [Hx1]
      · iexact Hx1
      isplitl [Hx2]
      · iexact Hx2
      iexact Hx3
    isplitl [Hw0 Hw1 Hw2 Hw3]
    · iapply (join_w m c)
      isplitl [Hw0]
      · iexact Hw0
      isplitl [Hw1]
      · iexact Hw1
      isplitl [Hw2]
      · iexact Hw2
      iexact Hw3
    iapply (join_o m c)
    isplitl [Ho0]
    · iexact Ho0
    isplitl [Ho1]
    · iexact Ho1
    isplitl [Ho2]
    · iexact Ho2
    iexact Ho3
  isplitl [Hix0 Hix1 Hix2 Hix3 Hiw0 Hiw1 Hiw2 Hiw3 Hio0 Hio2 Hio1 Hio3]
  · isplitl [Hix0 Hix1 Hix2 Hix3]
    · isplitl [Hix0]
      · iexact Hix0
      isplitl [Hix1]
      · iexact Hix1
      isplitl [Hix2]
      · iexact Hix2
      iexact Hix3
    isplitl [Hiw0 Hiw1 Hiw2 Hiw3]
    · isplitl [Hiw0]
      · iexact Hiw0
      isplitl [Hiw1]
      · iexact Hiw1
      isplitl [Hiw2]
      · iexact Hiw2
      iexact Hiw3
    isplitl [Hio0]
    · iexact Hio0
    isplitl [Hio2]
    · iexact Hio2
    isplitl [Hio1]
    · iexact Hio1
    iexact Hio3
  isplitl [Hk00 Hk01 Hk02 Hk10 Hk11 Hk12 Hk20 Hk21 Hk22 Hk30 Hk31 Hk32]
  · isplitl [Hk00 Hk01 Hk02]
    · isplitl [Hk00]
      · iexact Hk00
      isplitl [Hk01]
      · iexact Hk01
      iexact Hk02
    isplitl [Hk10 Hk11 Hk12]
    · isplitl [Hk10]
      · iexact Hk10
      isplitl [Hk11]
      · iexact Hk11
      iexact Hk12
    isplitl [Hk20 Hk21 Hk22]
    · isplitl [Hk20]
      · iexact Hk20
      isplitl [Hk21]
      · iexact Hk21
      iexact Hk22
    isplitl [Hk30]
    · iexact Hk30
    isplitl [Hk31]
    · iexact Hk31
    iexact Hk32
  isplitl [Hzb]
  · iexact Hzb
  isplitl [Hxv0 Hxv1 Hxv2 Hxv3]
  · iapply (join_xv c _ _ _ _)
    isplitl [Hxv0]
    · iexact Hxv0
    isplitl [Hxv1]
    · iexact Hxv1
    isplitl [Hxv2]
    · iexact Hxv2
    iexact Hxv3
  isplitl [Hwv0 Hwv1 Hwv2 Hwv3]
  · iapply (join_wv c _ _ _ _)
    isplitl [Hwv0]
    · iexact Hwv0
    isplitl [Hwv1]
    · iexact Hwv1
    isplitl [Hwv2]
    · iexact Hwv2
    iexact Hwv3
  isplitl [Hov0 Hov1 Hov2 Hov3]
  · iapply (join_ov c _ _ _ _)
    isplitl [Hov0]
    · iexact Hov0
    isplitl [Hov1]
    · iexact Hov1
    isplitl [Hov2]
    · iexact Hov2
    iexact Hov3
  isplitl [HwB]
  · iapply (has_hold c wbM _); iexact HwB
  isplitl [Ha00 Ha01 Ha02 Ha03 Ha10 Ha11 Ha12 Ha13 Ha20 Ha21 Ha22 Ha23 Ha30 Ha31 Ha32 Ha33]
  · isplitl [Ha00 Ha01 Ha02 Ha03]
    · iapply (join_acc c 0 _ _ _ _)
      isplitl [Ha00]
      · iexact Ha00
      isplitl [Ha01]
      · iexact Ha01
      isplitl [Ha02]
      · iexact Ha02
      iexact Ha03
    isplitl [Ha10 Ha11 Ha12 Ha13]
    · iapply (join_acc c 1 _ _ _ _)
      isplitl [Ha10]
      · iexact Ha10
      isplitl [Ha11]
      · iexact Ha11
      isplitl [Ha12]
      · iexact Ha12
      iexact Ha13
    isplitl [Ha20 Ha21 Ha22 Ha23]
    · iapply (join_acc c 2 _ _ _ _)
      isplitl [Ha20]
      · iexact Ha20
      isplitl [Ha21]
      · iexact Ha21
      isplitl [Ha22]
      · iexact Ha22
      iexact Ha23
    iapply (join_acc c 3 _ _ _ _)
    isplitl [Ha30]
    · iexact Ha30
    isplitl [Ha31]
    · iexact Ha31
    isplitl [Ha32]
    · iexact Ha32
    iexact Ha33
  isplitl [Hg00 Hg01 Hg02]
  · iapply (join_com c 0 _ _ _)
    isplitl [Hg00]
    · iexact Hg00
    isplitl [Hg01]
    · iexact Hg01
    iexact Hg02
  isplitl [Hg10 Hg11 Hg12]
  · iapply (join_com c 1 _ _ _)
    isplitl [Hg10]
    · iexact Hg10
    isplitl [Hg11]
    · iexact Hg11
    iexact Hg12
  isplitl [Hg20 Hg21 Hg22]
  · iapply (join_com c 2 _ _ _)
    isplitl [Hg20]
    · iexact Hg20
    isplitl [Hg21]
    · iexact Hg21
    iexact Hg22
  iapply (join_com c 3 _ _ _)
  isplitl [Hg30]
  · iexact Hg30
  isplitl [Hg31]
  · iexact Hg31
  iexact Hg32

end Cert.KernelIdeal.Rings

end
-- ==== Proof.Launch.lean ====
/-
# The launch

The ghost state of the rings is made at launch, the cells' invariants are allocated for all devices at once, the duty tokens
go to the devices which pay the duties, and the launch credits are counted.
-/
module

public import proofs.«01_k».proof.Proof.Whole
public import Idealize.ShloMosaic.Lib.Pipeline.CollectiveSegs

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Big conjunctions over the cells -/

omit [FloatOps F] in
theorem bigSep_bool (Φ : Bool → sProp 𝕄) : bigSep Finset.univ Φ = iprop(Φ false ∗ Φ true) :=
  bigSep_univ_eq_bigSepL [false, true] (by decide) (by decide) Φ

/-- One conjunct for each ring and hop. -/
abbrev hops (Φ : Fin 4 → Fin 3 → sProp 𝕄) : sProp 𝕄 := bigSep Finset.univ fun r => bigSep Finset.univ fun s => Φ r s

omit [FloatOps F] in
theorem hops_sep (Φ Ψ : Fin 4 → Fin 3 → sProp 𝕄) : hops (fun r s => iprop(Φ r s ∗ Ψ r s)) = iprop(hops Φ ∗ hops Ψ) := by
  unfold hops
  rw [← bigSep_sep']
  exact bigSep_congr fun r _ => bigSep_sep' _ _ _

omit [FloatOps F] in
/-- Send side and receive side. -/
theorem bigSep_sides (Φ : Bool × Fin 4 × Fin 3 → sProp 𝕄) :
    bigSep Finset.univ Φ = iprop(hops (fun r s => Φ (false, r, s)) ∗ hops fun r s => Φ (true, r, s)) := by
  rw [bigSep_univ_prod, bigSep_bool, bigSep_univ_prod, bigSep_univ_prod]

omit [FloatOps F] in
/-- The cells of one device: the barrier cell, the send cells, the receive cells. -/
theorem bigSep_cells (Φ : CK → sProp 𝕄) :
    bigSep Finset.univ Φ = iprop(Φ none ∗ hops (fun r s => Φ (some (false, r, s))) ∗ hops fun r s => Φ (some (true, r, s))) := by
  rw [bigSep_univ_at Φ none, ← bigSep_sides (fun x => Φ (some x)),
    show (Finset.univ.erase none : Finset CK) = Finset.univ.map Function.Embedding.some from by decide, bigSep_map]
  rfl

omit [FloatOps F] in
/-- Per ring and hop, each device's conjunct may be counted at the device it is sent to. -/
theorem hops_around (Φ : Dev nD → Fin 4 → Fin 3 → sProp 𝕄) :
    (bigSep Finset.univ fun c => hops (Φ c)) = bigSep Finset.univ fun c => hops fun r s => Φ (peer r c) r s := by
  unfold hops
  rw [bigSep_univ_comm, bigSep_univ_comm (fun (c : Dev nD) (r : Fin 4) => bigSep Finset.univ fun s => Φ (peer r c) r s)]
  exact bigSep_congr fun r _ => bigSep_univ_equiv (hopE r) (fun c : Dev nD => bigSep Finset.univ fun s => Φ c r s)

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-! ## The kernel's semaphores -/

/-- The kernel's own semaphores: all DMA semaphores. -/
abbrev osem : Fin 36 → SemLoc sig := fun i => .dma i

theorem ownSemFacts : Pipeline.OwnSemFacts cfg0.spec osem := by decide

/-- The copies' semaphores, then the hops'. -/
def semNo : (Fin 4 ⊕ Fin 4 ⊕ Fin 4) ⊕ (Bool × Fin 4 × Fin 3) → Fin 36
  | .inl (.inl t) => xQ t
  | .inl (.inr (.inl l)) => wQ l
  | .inl (.inr (.inr r)) => oQ r
  | .inr (false, r, s) => sendS r s
  | .inr (true, r, s) => recvS r s

theorem semNo_injective : Function.Injective semNo := by decide
/-- These are all of them. -/
def semE : (Fin 4 ⊕ Fin 4 ⊕ Fin 4) ⊕ (Bool × Fin 4 × Fin 3) ≃ Fin 36 :=
  Equiv.ofBijective semNo ((Fintype.bijective_iff_injective_and_card _).mpr ⟨semNo_injective, by decide⟩)

/-- What the launch hands a device for its own semaphores, and takes back. -/
abbrev own36 (c : Dev nD) : sProp 𝕄 :=
  Pipeline.ownSems0 (Ix := Unit) (Name := ℕ) (U := UU) (Lvl := ℕ) (Val := Elt F) (τ := τ) osem c

omit [FloatOps F] in
theorem own36_eq (c : Dev nD) : (own36 c : sProp 𝕄)
    = iprop(own12 c ∗ hops (fun r s => semVal (sendCell c r s) 0) ∗ hops fun r s => semVal (recvCell c r s) 0) := by
  unfold own36 Pipeline.ownSems0
  rw [bigSep_univ_equiv semE, bigSep_univ_sum, bigSep_univ_sum, bigSep_univ_sum, bigSep_sides]
  rfl

omit [FloatOps F] in
/-- The barrier semaphore is the only one which outlives the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## The ghost state at launch -/

theorem csem_injective : Function.Injective csem := by
  have h : ∀ k k' : CK, k ≠ k' → csem k ≠ csem k' := by decide
  exact fun k k' e => by_contra fun hne => h k k' hne e
theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The duty tokens of one device's own cells: two of the barrier cell, one of each send and receive cell. -/
abbrev TK : Type := Bool ⊕ (Bool × Fin 4 × Fin 3)
abbrev tokOf (x : Dev nD × TK) : GSem nD τ sig × ℕ × Bool := match x.2 with
  | .inl b => (barCell x.1, 0, b)
  | .inr k => (kcell (x.1, some k), 0, false)
theorem tokOf_injective : Function.Injective tokOf := by
  rintro ⟨c, k⟩ ⟨c', k'⟩ h
  have h1 : c = c' := by
    have := congrArg (fun x : GSem nD τ sig × ℕ × Bool => x.1.1.1) h
    rcases k with b | k <;> rcases k' with b' | k' <;> exact this
  subst h1
  have hs := congrArg (fun x : GSem nD τ sig × ℕ × Bool => (x.1.2, x.2.2)) h
  rcases k with b | k <;> rcases k' with b' | k'
  · have : b = b' := congrArg Prod.snd hs
    rw [this]
  · have : (none : CK) = some k' := csem_injective (congrArg Prod.fst hs)
    exact absurd this (by simp)
  · have : (some k : CK) = none := csem_injective (congrArg Prod.fst hs)
    exact absurd this (by simp)
  · have : (some k : CK) = some k' := csem_injective (congrArg Prod.fst hs)
    rw [Option.some.inj this]
def ringToks : Finset (GSem nD τ sig × ℕ × Bool) := Finset.univ.map ⟨tokOf, tokOf_injective⟩

def u₀ : UU := (initOf (Pipeline.cells cfgs cellOf_inj) (Pipeline.launchToks cfgs cellOf_inj), (initOf ringCells ringToks, 1))

/-- The tokens of device `c`'s own cells, -/
def toks (c : Dev nD) : sProp 𝕄 :=
  iprop((dutyTok ER (barCell c) 0 false ∗ dutyTok ER (barCell c) 0 true)
    ∗ hops (fun r s => dutyTok ER (sendCell c r s) 0 false) ∗ hops fun r s => dutyTok ER (recvCell c r s) 0 false)
/-- and the tokens of the duties which it pays. -/
def payToks (c : Dev nD) : sProp 𝕄 :=
  iprop((dutyTok ER (barCell (nxt c)) 0 false ∗ dutyTok ER (barCell (prv c)) 0 true)
    ∗ hops (fun r s => dutyTok ER (sendCell c r s) 0 false) ∗ hops fun r s => dutyTok ER (recvCell (peer r c) r s) 0 false)

/-- What the launch element deals device `c`. -/
def G (c : Dev nD) : sProp 𝕄 :=
  iprop((bigSep Finset.univ fun k : CK => roundState ER (ringRd m) (kcell (c, k)) 0)
    ∗ (bigSep Finset.univ fun k : CK => iprop(atPos ER (kcell (c, k)) 0 ∅ 0 ∗ reached ER (kcell (c, k)) 0)) ∗ toks c)

/-- What device `c` alone holds after the global step. -/
def mine (c : Dev nD) : sProp 𝕄 :=
  iprop(own12 c ∗ (bigSep Finset.univ fun k : CK => atPos ER (kcell (c, k)) 0 ∅ 0) ∗ payToks c)
/-- What the global step makes. -/
def G' (c : Dev nD) : sProp 𝕄 := iprop((∃ K, records m K) ∗ mine c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum, bigSep_bool, bigSep_sides]
    rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A device's cells' counters, -/
theorem sems_split (c : Dev nD) :
    iprop(own36 c ∗ unscopedSems0 c) ⊢ (iprop(own12 c ∗ bigSep Finset.univ fun k : CK => semVal (kcell (c, k)) 0) : sProp 𝕄) := by
  rw [own36_eq, unscopedSems0_eq, bigSep_cells]
  iintro ⟨⟨HO, HS, HV⟩, HB⟩
  isplitl [HO]; · iexact HO
  isplitl [HB]; · iexact HB
  isplitl [HS]; · iexact HS
  iexact HV

/-- and their invariants, allocated. -/
theorem core_alloc (c : Dev nD) :
    iprop(own36 c ∗ unscopedSems0 c ∗ G m c)
      ⊢ (|={Set.univ}=> iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ own12 c ∗ toks c) : sProp 𝕄) := by
  unfold G
  iintro ⟨Hos, Hus, Hst, Hat, Htok⟩
  ihave HH := (sems_split (F := F) c) $$ [Hos Hus]
  · isplitl [Hos] <;> iassumption
  icases HH with ⟨HO, Hv⟩
  imod (show iprop((bigSep Finset.univ fun k : CK => semVal (kcell (c, k)) 0) ∗ bigSep Finset.univ fun k : CK => roundState ER (ringRd m) (kcell (c, k)) 0)
      ⊢ (|={Set.univ}=> bigSep Finset.univ fun k => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [HO]; · iexact HO
  iexact Htok

omit [FloatOps F] in
/-- The tokens go to the devices which pay the duties. -/
theorem toks_around : (bigSep Finset.univ fun c : Dev nD => (toks c : sProp 𝕄)) ⊢ bigSep Finset.univ fun c : Dev nD => payToks c := by
  unfold toks payToks
  simp only [bigSep_sep']
  rw [bigSep_univ_equiv around (fun c : Dev nD => (dutyTok ER (barCell c) 0 false : sProp 𝕄)),
    bigSep_univ_equiv around.symm (fun c : Dev nD => (dutyTok ER (barCell c) 0 true : sProp 𝕄)),
    hops_around (fun (c : Dev nD) r s => (dutyTok ER (recvCell c r s) 0 false : sProp 𝕄))]
  exact BIBase.Entails.rfl

theorem regroup :
    (bigSep Finset.univ fun c : Dev nD => iprop((bigSep Finset.univ fun k => iprop(∃ κ : ℕ, cellInv ER (ringRd m) κ (kcell (c, k))))
          ∗ (bigSep Finset.univ fun k => iprop(atPos ER (kcell (c, k)) 0 ∅ 0 ∗ reached ER (kcell (c, k)) 0)) ∗ own12 c ∗ toks c) : sProp 𝕄)
      ⊢ bigSep Finset.univ (G' m) := by
  rw [bigSep_sep', bigSep_sep', bigSep_sep', ← bigSep_univ_prod (fun ck : Dev nD × CK => iprop(∃ κ : ℕ, cellInv ER (ringRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, HO, Htok⟩
  ihave HK := (BI.bigSep_exists_pi Finset.univ (fun (ck : Dev nD × CK) (κ : ℕ) => (cellInv ER (ringRd m) κ (kcell ck) : sProp 𝕄))) $$ HI
  icases HK with ⟨%K, #HI⟩
  ihave Htk := (toks_around (F := F)) $$ Htok
  iapply (bigSep_with_persistent (R := records m K) (Φ := fun c => mine c) fun c _ => show iprop(records m K ∗ mine c) ⊢ G' m c from by
    unfold G'
    iintro ⟨HR, HM⟩
    isplitl [HR]
    · iexists K; iexact HR
    · iexact HM)
  isplitr
  · unfold records; isplitl; · iexact HI
    iexact HR
  · unfold mine
    simp only [bigSep_sep']
    isplitl [HO]; · iexact HO
    isplitl [Hat]; · iexact Hat
    iexact Htk

/-- The global step. -/
theorem glob : (bigSep Finset.univ fun c => iprop(own36 c ∗ unscopedSems0 c ∗ G m c) : sProp 𝕄) ⊢ |={Set.univ}=> bigSep Finset.univ (G' m) :=
  ((bigSep_mono fun c _ => core_alloc m c).trans (bigSep_fupd _ _)).trans (BI.fupd_mono (regroup m))

/-! ## The credits at launch -/

theorem recv_inj {c d : Dev nD} {r r' : Fin 4} {s s' : Fin 3} (h : recvCell c r s = recvCell d r' s') : c = d ∧ r = r' ∧ s = s' := by
  have h1 : c = d := congrArg (fun g : GSem nD τ sig => g.1.1) h
  have h2 : (some (true, r, s) : CK) = some (true, r', s') := csem_injective (congrArg Prod.snd h)
  have h3 := Option.some.inj h2
  exact ⟨h1, congrArg (fun x => x.2.1) h3, congrArg (fun x => x.2.2) h3⟩
theorem recv_ne_bar {c d : Dev nD} {r : Fin 4} {s : Fin 3} : recvCell c r s ≠ barCell d := fun h => by
  have h2 : (some (true, r, s) : CK) = none := csem_injective (congrArg Prod.snd h)
  exact absurd h2 (by simp)
theorem bar_inj {a b : Dev nD} (h : barCell a = barCell b) : a = b := congrArg (fun g : GSem nD τ sig => g.1.1) h

theorem due_recv (d c : Dev nD) (r : Fin 4) (s : Fin 3) (k : ℕ) (hk : k < 12) :
    due d k (recvCell c r s) () = if 4 * s.val + r.val = k ∧ d = frm r c then N else 0 := by
  unfold due
  rw [tallyAt_apply]
  refine if_congr ⟨fun ⟨h, _⟩ => ?_, fun ⟨h, hd⟩ => ⟨?_, rfl⟩⟩ rfl rfl
  · obtain ⟨h1, h2, h3⟩ := recv_inj h
    have e2 : r.val = k % 4 := congrArg Fin.val h2
    have e3 : s.val = k / 4 % 3 := congrArg Fin.val h3
    refine ⟨by omega, ?_⟩
    rw [h1, ← h2, frm_peer]
  · have e2 : (⟨k % 4, Nat.mod_lt _ (by decide)⟩ : Fin 4) = r := Fin.ext (by have := r.isLt; show k % 4 = r.val; omega)
    have e3 : (⟨k / 4 % 3, Nat.mod_lt _ (by decide)⟩ : Fin 3) = s := Fin.ext (by have := s.isLt; have := r.isLt; show k / 4 % 3 = s.val; omega)
    rw [e2, e3, hd, peer_frm]

theorem rem_recv (d c : Dev nD) (r : Fin 4) (s : Fin 3) : ∀ j, j ≤ 12 →
    rem d j (recvCell c r s) () = if 12 - j ≤ 4 * s.val + r.val ∧ d = frm r c then N else 0
  | 0, _ => by
    rw [if_neg fun h => by have := s.isLt; have := r.isLt; omega]; rfl
  | j + 1, hj => by
    show (rem d j + due d (11 - j)) (recvCell c r s) () = _
    rw [Pi.add_apply, Finsupp.add_apply, rem_recv d c r s j (by omega), due_recv d c r s _ (by omega)]
    by_cases hd : d = frm r c
    · by_cases h1 : 4 * s.val + r.val = 11 - j
      · rw [if_neg (fun h => by omega), if_pos ⟨h1, hd⟩, if_pos ⟨by omega, hd⟩, Nat.zero_add]
      · rw [if_neg (c := 4 * s.val + r.val = 11 - j ∧ d = frm r c) (fun h => h1 h.1), Nat.add_zero]
        exact if_congr (by constructor <;> (intro h; exact ⟨by omega, hd⟩)) rfl rfl
    · rw [if_neg fun h => hd h.2, if_neg fun h => hd h.2, if_neg fun h => hd h.2]

theorem rem_bar (d c : Dev nD) : ∀ j, rem d j (barCell c) () = 0
  | 0 => rfl
  | j + 1 => by
    show (rem d j + due d (11 - j)) (barCell c) () = _
    rw [Pi.add_apply, Finsupp.add_apply, rem_bar d c j]
    unfold due
    rw [tallyAt_ne_cell (fun h => recv_ne_bar h.symm)]; rfl

theorem owed_recv (d c : Dev nD) (r : Fin 4) (s : Fin 3) : owed₀ d (recvCell c r s) () = if d = frm r c then N else 0 := by
  unfold owed₀ owed₁
  rw [Pi.add_apply, Finsupp.add_apply, Pi.add_apply, Finsupp.add_apply, rem_recv d c r s 12 (le_refl _), tallyAt_ne_cell recv_ne_bar, tallyAt_ne_cell recv_ne_bar,
    Finsupp.zero_apply, Nat.add_zero, Nat.add_zero]
  exact if_congr ⟨fun h => h.2, fun h => ⟨by omega, h⟩⟩ rfl rfl

theorem owed_bar (d c : Dev nD) : owed₀ d (barCell c) () = (if d = prv c then 1 else 0) + (if d = nxt c then 1 else 0) := by
  unfold owed₀ owed₁
  rw [Pi.add_apply, Finsupp.add_apply, Pi.add_apply, Finsupp.add_apply, rem_bar, tallyAt_apply, tallyAt_apply, Nat.zero_add]
  congr 1
  · exact if_congr ⟨fun h => by rw [bar_inj h.1, prv_nxt], fun h => ⟨by rw [h, nxt_prv], rfl⟩⟩ rfl rfl
  · exact if_congr ⟨fun h => by rw [bar_inj h.1, nxt_prv], fun h => ⟨by rw [h, prv_nxt], rfl⟩⟩ rfl rfl

theorem launch_bar (c : Dev nD) :
    tallyOn (barCell c) (launchCredit (Pipeline.owing owed₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (r : Fin 4) (s : Fin 3) :
    tallyOn (recvCell c r s) (launchCredit (Pipeline.owing owed₀) 0 (recvCell c r s)) = (tallyAt (recvCell c r s) () N : CellTallies nD τ sig Unit) := by
  unfold tallyAt; refine congrArg _ (Finsupp.ext fun u => ?_); cases u
  rw [Pipeline.launchCredit_owing, Finsupp.single_eq_same, Finset.sum_congr rfl fun d _ => owed_recv d c r s, Finset.sum_ite_eq' Finset.univ (frm r c) fun _ => N,
    if_pos (Finset.mem_univ _)]

omit [FloatOps F] in
/-- A device's credit at launch: two units on its barrier cell, one hop's credit on each of its receive cells. -/
theorem creds (c : Dev nD) :
    (Pipeline.launchCred owed₀ c : sProp 𝕄) ⊢ iprop(cred (tallyAt (barCell c) () 2) ∗ hops fun r s => cred (tallyAt (recvCell c r s) () N)) := by
  have h : (Pipeline.launchCred owed₀ c : sProp 𝕄)
      ⊢ bigSep (Finset.univ.map ⟨csem, csem_injective⟩) fun sm : SemLoc sig => cred (tallyOn ((c : Thread nD τ), sm) (launchCredit (Pipeline.owing owed₀) 0 ((c : Thread nD τ), sm))) :=
    bigSep_subset (Finset.subset_univ _)
  rw [bigSep_map, bigSep_cells] at h
  refine h.trans ?_
  show iprop(cred (tallyOn (barCell c) (launchCredit (Pipeline.owing owed₀) 0 (barCell c)))
    ∗ _ ∗ hops fun r s => cred (tallyOn (recvCell c r s) (launchCredit (Pipeline.owing owed₀) 0 (recvCell c r s)))) ⊢ _
  simp only [launch_bar, launch_recv]
  iintro ⟨HB, -, HV⟩
  isplitl [HB]; · iexact HB
  iexact HV

end Cert.KernelIdeal.Rings

end
-- ==== Proof.Run.lean ====
/-
# The run

The kernel at its launch: the pipeline has no window and one point, whose body is the kernel.
-/
module

public import proofs.«01_k».proof.Proof.Launch

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data: no window, one point -/

def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => before m c
    | ⟨_ + 1, _⟩ => after m c
  q _ := fullShare
  owed t := match t with
    | ⟨0, _⟩ => owed₀ c
    | ⟨_ + 1, _⟩ => 0

theorem share_eq (c : Dev nD) (w : Fin cfg0.W) : (dats m 0 c).share w = fullShare := w.elim0

/-- What the body leaves. -/
def bodyPost (c : Dev nD) : sProp 𝕄 := iprop(after m c ∗ Pipeline.owesWithin c 0 Set.univ ∗ emp)

/-- The library's body obligation. -/
theorem body_obligation (c : Dev nD) : BodyObligation (dats (F := F) m 0 c) (defs₀ (F := F)) 𝒱₀ () Set.univ := fun t => by
  rw [fin_N0 t]
  have hW (Φ : Fin cfg0.W → sProp 𝕄) : bigSep Finset.univ Φ = iprop(emp) := by
    rw [show (Finset.univ : Finset (Fin cfg0.W)) = ∅ from rfl, bigSep_empty]; rfl
  rw [hW, hW, show (dats m 0 c).Φ t0_0.castSucc = before m c from rfl, show (dats m 0 c).Φ t0_0.succ = after m c from rfl]
  unfold Dat.owesAt Pipeline.owesWithin
  iintro ⟨HΦ, ⟨%W, -, HO⟩, -⟩
  iapply (show iprop(before m c ∗ owing c (owed₀ c) ∗ (after m c -∗ owing c (rem c 0) -∗ _)) ⊢ _ from body_whole m c t0_0)
  isplitl [HΦ]; · iexact HΦ
  isplitl [HO]
  · unfold owing; iexists W; iexact HO
  iintro HΦ HO
  isplitl [HΦ]; · iexact HΦ
  isplitl
  · unfold owing
    icases HO with ⟨%W', HO⟩
    iexists W'
    isplitr; · ipureintro; exact fun _ _ => Or.inl trivial
    iexact HO
  · iempintro

/-! ## The launch theorem's side conditions -/

/-- What the kernel finds and leaves besides its scratch buffers: the two arguments and the result, -/
theorem mem₀_intro (c : Dev nD) :
    (Pipeline.unscopedRestP Pipeline.Prefetch.none cfg0.spec c (fun b => m ((c : Thread nD τ).loc b)) : sProp 𝕄) ⊢ mem₀ m c := by
  refine (show _ ⊢ (Pipeline.unscopedRest cfg0.spec c (fun b => m ((c : Thread nD τ).loc b)) : sProp 𝕄) from Entails.of_eq (Pipeline.unscopedRestP_none _ _ _)).trans ?_
  rw [unscopedRest0_eq]
  unfold mem₀ hold
  iintro ⟨HX, HW, HO⟩
  have h (b : Ref sig .tc) : ((c : Thread nD τ).loc b ↦{fullShare} m ((c : Thread nD τ).loc b) : sProp 𝕄) ⊢ owns c (Memref.whole b) fullShare (m ((c : Thread nD τ).loc b)) :=
    Entails.of_eq (owns_whole _ _ _ _).symm
  isplitl [HX]; · iapply (h main_arg0); iexact HX
  isplitl [HW]; · iapply (h main_arg1); iexact HW
  iexists m ((c : Thread nD τ).loc main_v1)
  iapply (h main_v1); iexact HO

/-- the scratch buffers. -/
theorem hold_whole (c : Dev nD) (b : Ref sig .tc) :
    (hold c (Memref.whole b) : sProp 𝕄) = iprop(∃ f : Buf (Elt F) ((c : Thread nD τ).loc b), ((c : Thread nD τ).loc b) ↦{fullShare} f) := by
  unfold hold; simp only [owns_whole]

omit [FloatOps F] in
theorem shuffle (P0 P1 P2 P3 P4 P5 P6 P7 P8 P9 P10 P11 : sProp 𝕄) :
    iprop(P0 ∗ P1 ∗ P2 ∗ P3 ∗ P4 ∗ P5 ∗ P6 ∗ P7 ∗ P8 ∗ P9 ∗ P10 ∗ P11)
      = iprop(P0 ∗ P1 ∗ P2 ∗ P3 ∗ (P4 ∗ P6 ∗ P5 ∗ P7) ∗ P8 ∗ P10 ∗ P9 ∗ P11) := by
  have h₁ : (iprop(P0 ∗ P1 ∗ P2 ∗ P3 ∗ P4 ∗ P5 ∗ P6 ∗ P7 ∗ P8 ∗ P9 ∗ P10 ∗ P11) : sProp 𝕄) ⊢ iprop(P0 ∗ P1 ∗ P2 ∗ P3 ∗ (P4 ∗ P6 ∗ P5 ∗ P7) ∗ P8 ∗ P10 ∗ P9 ∗ P11) := by
    iintro ⟨H0, H1, H2, H3, H4, H5, H6, H7, H8, H9, H10, H11⟩
    isplitl [H0]; · iexact H0
    isplitl [H1]; · iexact H1
    isplitl [H2]; · iexact H2
    isplitl [H3]; · iexact H3
    isplitl [H4 H5 H6 H7]
    · isplitl [H4]; · iexact H4
      isplitl [H6]; · iexact H6
      isplitl [H5]; · iexact H5
      iexact H7
    isplitl [H8]; · iexact H8
    isplitl [H10]; · iexact H10
    isplitl [H9]; · iexact H9
    iexact H11
  have h₂ : (iprop(P0 ∗ P1 ∗ P2 ∗ P3 ∗ (P4 ∗ P6 ∗ P5 ∗ P7) ∗ P8 ∗ P10 ∗ P9 ∗ P11) : sProp 𝕄) ⊢ iprop(P0 ∗ P1 ∗ P2 ∗ P3 ∗ P4 ∗ P5 ∗ P6 ∗ P7 ∗ P8 ∗ P9 ∗ P10 ∗ P11) := by
    iintro ⟨H0, H1, H2, H3, ⟨H4, H6, H5, H7⟩, H8, H10, H9, H11⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  exact equiv_iff.mp ⟨h₁, h₂⟩

theorem scr_eq (c : Dev nD) : (Pipeline.scopedRest cfg0.spec c : sProp 𝕄) = scr c := by
  rw [scopedRest0_eq]
  unfold scr
  simp only [bigSep_fin4]
  rw [← hold_whole c cc0_scratch0, ← hold_whole c cc0_scratch1, ← hold_whole c cc0_scratch2, ← hold_whole c cc0_scratch3, ← hold_whole c cc0_scratch4,
    ← hold_whole c cc0_scratch5, ← hold_whole c cc0_scratch6, ← hold_whole c cc0_scratch7, ← hold_whole c cc0_scratch8, ← hold_whole c cc0_scratch9,
    ← hold_whole c cc0_scratch10, ← hold_whole c cc0_scratch11]
  rw [show comM (0 : Fin 4) = Memref.whole cc0_scratch8 from rfl, show comM (1 : Fin 4) = Memref.whole cc0_scratch10 from rfl,
    show comM (2 : Fin 4) = Memref.whole cc0_scratch9 from rfl, show comM (3 : Fin 4) = Memref.whole cc0_scratch11 from rfl,
    show accM (0 : Fin 4) = Memref.whole cc0_scratch4 from rfl, show accM (1 : Fin 4) = Memref.whole cc0_scratch6 from rfl,
    show accM (2 : Fin 4) = Memref.whole cc0_scratch5 from rfl, show accM (3 : Fin 4) = Memref.whole cc0_scratch7 from rfl]
  exact shuffle _ _ _ _ _ _ _ _ _ _ _ _

theorem start_intro (c : Dev nD) :
    iprop(Pipeline.unscopedRestP Pipeline.Prefetch.none cfg0.spec c (fun b => m ((c : Thread nD τ).loc b)) ∗ levAts L lv
        ∗ Pipeline.launchCred owed₀ c ∗ prngReg c (ρ c) ∗ G' m c)
      ⊢ (|={Set.univ}=> iprop(start m c ∗ emp) : sProp 𝕄) := by
  iintro ⟨Hm, Hlev, Hcr, -, HG⟩
  ihave Hm := (mem₀_intro m c) $$ Hm
  ihave Hc := (creds (F := F) c) $$ Hcr
  icases Hc with ⟨HB, HV⟩
  imodintro
  isplitl
  · unfold start G' mine payToks gate hops₀ kit0
    rw [bigSep_cells]
    icases HG with ⟨HR, HO, ⟨Hab, Has, Hav⟩, ⟨Htn, Htp⟩, Hts, Htv⟩
    isplitl [HR]; · iexact HR
    isplitl [Hlev]; · iexact Hlev
    isplitl [Hab Htn Htp HB]
    · isplitl [Htp]; · iexact Htp
      isplitl [Htn]; · iexact Htn
      isplitl [Hab]; · iexact Hab
      iexact HB
    isplitl [Has Hav Hts Htv HV]
    · simp only [bigSep_sep']
      isplitl [Has]; · iexact Has
      isplitl [Hav]; · iexact Hav
      isplitl [Hts]; · iexact Hts
      isplitl [Htv]; · iexact Htv
      iexact HV
    isplitl [HO]; · iexact HO
    iexact Hm
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scr_eq]
  unfold before
  iintro ⟨Hs, -, Hr⟩
  isplitl [Hs]; · iexact Hs
  iexact Hr

/-- What a device keeps: both arguments, the result and the barrier semaphore at zero. -/
def kept (c : Dev nD) : sProp 𝕄 := iprop(mem₁ m c ∗ unscopedSems0 c)

theorem phi1_exit (c : Dev nD) :
    (dats m 0 c).Φ (Fin.last cfg0.N) ⊢ iprop(kept m c ∗ Pipeline.ownSems0 osem c ∗ Pipeline.scopedRest cfg0.spec c) := by
  rw [show (dats m 0 c).Φ (Fin.last cfg0.N) = after m c from rfl, scr_eq,
    show (Pipeline.ownSems0 osem c : sProp 𝕄) = own36 c from rfl, own36_eq]
  unfold after kept hops₁ kit3
  rw [unscopedSems0_eq]
  simp only [bigSep_sep']
  iintro ⟨Hm, HO, ⟨HS, HV⟩, HB, Hr⟩
  isplitl [Hm HB]
  · isplitl [Hm]; · iexact Hm
    iexact HB
  isplitl [HO HS HV]
  · isplitl [HO]; · iexact HO
    isplitl [HS]; · iexact HS
    iexact HV
  iexact Hr

theorem waits (c : Dev nD) : (levAts L lv : sProp 𝕄) ⊢ Pipeline.cellsWaits cfgs (dats m) () 0 c :=
  Pipeline.cellsWaits_intro cfgs (dats m) () 0 c fun w s t => w.elim0

/-! ## The run -/

/-- The final memory of device `c`: the arguments as they were, the result `outB`. -/
def memOK (c : Dev nD) (s : MemSt nD τ sig (Elt F)) : Prop :=
  s.mem ((c : Thread nD τ).loc main_arg0) = x0 m c ∧ s.mem ((c : Thread nD τ).loc main_arg1) = w0 m c ∧ s.mem ((c : Thread nD τ).loc main_v1) = outB m c

theorem mem_read (c : Dev nD) (s' : Phys nD τ sig (Elt F)) : iprop(mem₁ m c ∗ SI s') ⊢ (iprop(⌜memOK m c s'.mem⌝ ∗ SI s') : sProp 𝕄) := by
  unfold mem₁
  simp only [owns_whole]
  iintro ⟨⟨HX, HW, HO⟩, HSI⟩
  icombine HSI HX gives %h0
  icombine HSI HW gives %h1
  icombine HSI HO gives %h2
  isplitr
  · ipureintro
    exact ⟨Buf.eq_of_forall_mem_univ h0, Buf.eq_of_forall_mem_univ h1, Buf.eq_of_forall_mem_univ h2⟩
  · iexact HSI

set_option maxRecDepth 8000 in
/-- From any memory with all counters at zero the kernel terminates on the four devices; each then holds its arguments as they were and `outB` as its
    result, and every semaphore counter is zero again. -/
theorem run_main : θ_run defs (onTc (τ := τ) (main (F := F))) ⟨m, fun _ => 0, ρ⟩ (fun r => (∀ c, memOK m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := share_eq m)
    (hdistinct := winFacts0.arr_inj)
    (O₀ := owed₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      ihave HX' := (own_pair_emb embR (initOf ringCells ringToks) (1 : Counters)) $$ HX
      icases HX' with ⟨HX, -⟩
      ihave HX'' := (show (BI.own (((Emb.inl : Emb UB (UB × Counters)).trans embR) (initOf ringCells ringToks)) : sProp 𝕄)
        ⊢ BI.own (ER (initOf ringCells ringToks)) from BIBase.Entails.rfl) $$ HX
      imod (fund_ring m) $$ HX'' with HG
      imodintro
      isplitl [HP] <;> iassumption)
    (hglob := glob m)
    (hA := fun _ _ => rfl) (hpf := fun _ k => k.elim0)
    (X := start m) (Y := kept m) (Z := fun _ => iprop(emp))
    (hX := start_intro m ρ) (hin := phi0_intro m) (hout := phi1_exit m)
    (QY := fun c s => memOK m c s ∧ ∀ sm : SemLoc sig, sm.isScoped .tc = false → s.sem ((c.tc : Thread nD τ), sm) = 0)
    (hY := fun c s' => by
      unfold kept
      iintro ⟨⟨Hm, Hu⟩, -, HSI⟩
      ihave HH := (mem_read m c s') $$ [Hm HSI]
      · isplitl [Hm] <;> iassumption
      icases HH with ⟨%hm, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨hm, hs⟩
      · iexact HSI)
    (hQ := fun _ h hs => ⟨fun c => (h c).2.2.1, sem_eq_zero hs fun c => (h c).2.2.2⟩)

end Cert.KernelIdeal.Rings

end
-- ==== Proof.Value.lean ====
/-
# The result over the extended reals

Read with exact operations, the result on device `c` is row chunk `c` of the product of the whole arrays, cut off below zero.
-/
module

public import proofs.«01_k».proof.Proof.Common
public import Idealize.ShloMosaic.Lib.MatmulPlain
public import Idealize.ShloMosaic.PureOps.Ideal
public import Idealize.ShloMosaic.PureOps.Ideal.Laws

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.ValueIdx

section Ideal

variable (mI : (ℓ : Loc nD τ sig) → Buf (Elt Ideal) ℓ)

/-- Position `i` of block `a` of an axis of 2048 cut in four. -/
def big (a : Fin 4) (i : Fin 512) : Fin 2048 := ⟨512 * a.val + i.val, by omega⟩

/-- Entry `(i, j)` of the partial product of device `d`: row chunk `a` of its part of `x` times lane `l` of its part of `w`. -/
def part (d : Dev nD) (a l : Fin 4) (i j : Fin 512) : EReal :=
  ∑ k : Fin 512, (x0 mI d (ix2 (big a i) k) : EReal) * w0 mI d (ix2 k (big l j))

/-! ## One product slot read at an index -/

theorem pay5_apply (u : FVec Ideal S512x512 .f32) (v : FVec Ideal S512x512 .bf16) (i j : Fin 512) :
    (k0_pay5 (F := Ideal) u v (ix3 0 i j) : EReal) = ∑ k : Fin 512, (u (ix2 i k) : EReal) * v (ix2 k j) := by
  have e : (fun a : Fin 2 => (ix3 (0 : Fin 1) i j) a.succ : S512x512.Idx) = ix2 i j := by
    funext a
    match a with
    | ⟨0, _⟩ => rfl
    | ⟨1, _⟩ => rfl
  unfold k0_pay5
  refine (shapeCast_addUnit_apply ![512, 512] _ _ (ix3 (0 : Fin 1) i j)).trans ?_
  rw [e]
  refine (Ideal.matmul_plain_apply (M := 512) (K := 512) (N := 512) (φ₁ := .bf16) (φ₂ := .bf16) none u v (constant S512x512 .f32 0x00000000#32) i j).trans ?_
  show Ideal.ofBits .f32 0x00000000#32 + _ = _
  rw [Ideal.ofBits_zero_f32, zero_add]

/-- A slot cut from the product with a wider part of `w`, at column offset `o`. -/
theorem cut_apply {n : ℕ} (o : ℕ) (u : FVec Ideal S512x512 .bf16) (v : FVec Ideal ⟨2, ![512, n]⟩ .bf16)
    (hs : (⟨2, ![512, n]⟩ : Shape).Slices ![0, o] S512x512) (i j : Fin 512) (ho : o + j.val < n) :
    (shapeCast S1x512x512 (extractStridedSlice S512x512 ![0, o]
        (FloatOps.matmul (DotDims.plain 512 512 n) none u v (constant ⟨2, ![512, n]⟩ .f32 0x00000000#32)) hs) shapeCasts_S512x512_S1x512x512 (ix3 0 i j) : EReal)
      = ∑ k : Fin 512, (u (ix2 i k) : EReal) * v (ix2 k ⟨o + j.val, ho⟩) := by
  refine (shapeCast_addUnit_apply ![512, 512] _ _ (ix3 (0 : Fin 1) i j)).trans ?_
  refine (extractStridedSlice_apply ![0, o] _ hs _ (ix2 i ⟨o + j.val, ho⟩) ?_).trans ?_
  · intro a
    match a with
    | ⟨0, _⟩ => exact (Nat.zero_add _).symm
    | ⟨1, _⟩ => rfl
  refine (Ideal.matmul_plain_apply (M := 512) (K := 512) (N := n) none u v _ i ⟨o + j.val, ho⟩).trans ?_
  show Ideal.ofBits .f32 0x00000000#32 + _ = _
  rw [Ideal.ofBits_zero_f32, zero_add]

/-! ## The operands -/

/-- Which row chunk device `c` reads as its chunk `t`. -/
def chk (c : Dev nD) (t : Fin 4) : Fin 4 := ⟨(c.val + ![3, 1, 2, 0] t) % 4, Nat.mod_lt _ (by decide)⟩

theorem xR_emb_0 (c : Dev nD) (t : Fin 4) (i : S512x512.Idx) : (((xR c t).emb i) 0).val = 512 * (chk c t).val + (i 0).val := by
  rw [Rect.emb_apply]
  show k0_off1 c (k0_off1_at t) 0 + 1 * (i 0).val = _
  rw [off1_eq]
  show 512 * ((c.val + ![3, 1, 2, 0] t) % 4) + 1 * (i 0).val = 512 * ((c.val + ![3, 1, 2, 0] t) % 4) + (i 0).val
  omega
theorem xR_emb_1 (c : Dev nD) (t : Fin 4) (i : S512x512.Idx) : (((xR c t).emb i) 1).val = (i 1).val := by
  rw [Rect.emb_apply]
  show k0_off1 c (k0_off1_at t) 1 + 1 * (i 1).val = _
  rw [off1_eq]
  show 0 + 1 * (i 1).val = (i 1).val
  omega

theorem xc_apply (c : Dev nD) (t : Fin 4) (i k : Fin 512) : xc mI c t (ix2 i k) = x0 mI c (ix2 (big (chk c t) i) k) := by
  unfold xc
  congr 1
  funext a
  match a with
  | ⟨0, _⟩ => exact Fin.ext (xR_emb_0 c t (ix2 i k))
  | ⟨1, _⟩ => exact Fin.ext (xR_emb_1 c t (ix2 i k))

theorem wbl_apply (c : Dev nD) (l : Fin 4) (k j : Fin 512) : (wbl mI c l (ix2 k j) : EReal) = w0 mI c (ix2 k (big l j)) := by
  show w0 mI c ((lane l).emb (ix2 k j)) = _
  congr 1
  funext a
  match a with
  | ⟨0, _⟩ => exact Fin.ext (lane_emb_0 l _)
  | ⟨1, _⟩ => exact Fin.ext (lane_emb_1 l _)

theorem wb_apply (c : Dev nD) (l : Fin 4) (k : Fin 512) (j : Fin 512) (n : ℕ) (h : n < 2048) (hn : n = 512 * l.val + j.val) :
    (wb mI c (ix2 k ⟨n, h⟩) : EReal) = w0 mI c (ix2 k (big l j)) := by
  show w0 mI c (ix2 k ⟨n, h⟩) = _
  rw [show (⟨n, h⟩ : Fin 2048) = big l j from Fin.ext hn]

theorem half_emb_1 (h : Fin 2) (i : S512x1024.Idx) : (((half h).emb i) 1).val = 1024 * h.val + (i 1).val := by
  rw [Rect.emb_apply]; show 1024 * h.val + 1 * (i 1).val = _; omega
theorem half_emb_0 (h : Fin 2) (i : S512x1024.Idx) : (((half h).emb i) 0).val = (i 0).val := by
  rw [Rect.emb_apply]; show 0 + 1 * (i 0).val = _; omega

theorem wbh_apply (c : Dev nD) (h : Fin 2) (l : Fin 4) (k : Fin 512) (j : Fin 512) (n : ℕ) (hn : n < 1024)
    (e : 1024 * h.val + n = 512 * l.val + j.val) :
    (wbh mI c h (ix2 k ⟨n, hn⟩) : EReal) = w0 mI c (ix2 k (big l j)) := by
  show w0 mI c ((half h).emb (ix2 k ⟨n, hn⟩)) = _
  congr 1
  funext a
  match a with
  | ⟨0, _⟩ => exact Fin.ext (half_emb_0 h _)
  | ⟨1, _⟩ => exact Fin.ext ((half_emb_1 h _).trans e)

/-! ## Every product slot -/

theorem slot_lane (c : Dev nD) (t l : Fin 4) (i j : Fin 512) :
    (k0_pay5 (xc mI c t) (wbl mI c l) (ix3 0 i j) : EReal) = part mI c (chk c t) l i j :=
  (pay5_apply _ _ i j).trans (Finset.sum_congr rfl fun k _ => congrArg₂ (fun a b : EReal => a * b) (xc_apply mI c t i k) (wbl_apply mI c l k j))

theorem slot_whole (c : Dev nD) (t l : Fin 4) (i j : Fin 512) (o : ℕ) (e : o = 512 * l.val) (hs : S512x2048.Slices ![0, o] S512x512) :
    (shapeCast S1x512x512 (extractStridedSlice S512x512 ![0, o]
        (FloatOps.matmul (F := Ideal) (φ₁ := .bf16) (φ₂ := .bf16) (DotDims.plain 512 512 2048) none (xc mI c t) (wb mI c) (constant S512x2048 .f32 0x00000000#32)) hs)
          shapeCasts_S512x512_S1x512x512 (ix3 0 i j) : EReal)
      = part mI c (chk c t) l i j :=
  (cut_apply o _ _ hs i j (by omega)).trans
    (Finset.sum_congr rfl fun k _ => congrArg₂ (fun a b : EReal => a * b) (xc_apply mI c t i k) (wb_apply mI c l k j _ _ (by omega)))

theorem slot_half (c : Dev nD) (t l : Fin 4) (h : Fin 2) (o : ℕ) (i j : Fin 512) (hs : S512x1024.Slices ![0, o] S512x512)
    (e : 1024 * h.val + o = 512 * l.val) (ho : o + 512 ≤ 1024) :
    (shapeCast S1x512x512 (extractStridedSlice S512x512 ![0, o]
        (FloatOps.matmul (F := Ideal) (φ₁ := .bf16) (φ₂ := .bf16) (DotDims.plain 512 512 1024) none (xc mI c t) (wbh mI c h) (constant S512x1024 .f32 0x00000000#32)) hs)
          shapeCasts_S512x512_S1x512x512 (ix3 0 i j) : EReal)
      = part mI c (chk c t) l i j :=
  (cut_apply o _ _ hs i j (by omega)).trans
    (Finset.sum_congr rfl fun k _ => congrArg₂ (fun a b : EReal => a * b) (xc_apply mI c t i k) (wbh_apply mI c h l k j _ _ (by omega)))

/-- Which of its row chunks a device multiplies on ring `r` at step `s`. -/
def tOf (r s : Fin 4) : Fin 4 := ![![0, 2, 1, 3], ![1, 2, 0, 3], ![0, 2, 1, 3], ![1, 2, 0, 3]] r s

theorem prodAt_apply (r s : Fin 4) (c : Dev nD) (i j : Fin 512) :
    (prodAt mI r s.val c (ix3 0 i j) : EReal) = part mI c (chk c (tOf r s)) (laneOf r) i j :=
  match r, s with
  | 0, 0 => slot_lane mI c 0 0 i j
  | 1, 0 => slot_lane mI c 1 2 i j
  | 2, 0 => slot_lane mI c 0 1 i j
  | 3, 0 => slot_lane mI c 1 3 i j
  | 0, 1 => slot_whole mI c 2 0 i j 0 rfl slices_S512x2048_o0_0_S512x512
  | 1, 1 => slot_whole mI c 2 2 i j 1024 rfl slices_S512x2048_o0_1024_S512x512
  | 2, 1 => slot_whole mI c 2 1 i j 512 rfl slices_S512x2048_o0_512_S512x512
  | 3, 1 => slot_whole mI c 2 3 i j 1536 rfl slices_S512x2048_o0_1536_S512x512
  | 0, 2 => slot_half mI c 1 0 0 0 i j slices_S512x1024_o0_0_S512x512 rfl (by decide)
  | 1, 2 => slot_half mI c 0 2 1 0 i j slices_S512x1024_o0_0_S512x512 rfl (by decide)
  | 2, 2 => slot_half mI c 1 1 0 512 i j slices_S512x1024_o0_512_S512x512 rfl (by decide)
  | 3, 2 => slot_half mI c 0 3 1 512 i j slices_S512x1024_o0_512_S512x512 rfl (by decide)
  | 0, 3 => slot_whole mI c 3 0 i j 0 rfl slices_S512x2048_o0_0_S512x512
  | 1, 3 => slot_whole mI c 3 2 i j 1024 rfl slices_S512x2048_o0_1024_S512x512
  | 2, 3 => slot_whole mI c 3 1 i j 512 rfl slices_S512x2048_o0_512_S512x512
  | 3, 3 => slot_whole mI c 3 3 i j 1536 rfl slices_S512x2048_o0_1536_S512x512

/-! ## Around a ring -/

/-- A slot read as a matrix. -/
theorem flat_apply (u : Vec Ideal S1x512x512 .bf16) (i j : Fin 512) :
    (shapeCast S512x512 u shapeCasts_S1x512x512_S512x512 (ix2 i j) : EReal) = u (ix3 0 i j) :=
  (shapeCast_dropUnit_apply ![512, 512] u _ _).trans (congrArg u (by
    funext a
    match a with
    | ⟨0, _⟩ => rfl
    | ⟨1, _⟩ => rfl
    | ⟨2, _⟩ => rfl))

/-- One hop adds what arrived. -/
theorem add_apply (u v : Vec Ideal S1x512x512 .bf16) (i j : Fin 512) :
    (k0_pay29 (F := Ideal) u v (ix3 0 i j) : EReal) = (u (ix3 0 i j) : EReal) + v (ix3 0 i j) := by
  have e : (fun a : Fin 2 => (ix3 (0 : Fin 1) i j) a.succ : S512x512.Idx) = ix2 i j := by
    funext a
    match a with
    | ⟨0, _⟩ => rfl
    | ⟨1, _⟩ => rfl
  unfold k0_pay29
  refine (shapeCast_addUnit_apply ![512, 512] _ _ (ix3 (0 : Fin 1) i j)).trans ?_
  rw [e]
  exact congrArg₂ (fun a b : EReal => a + b) (flat_apply u i j) (flat_apply v i j)

/-- The last step adds and cuts off below zero. -/
theorem relu_apply (u v : Vec Ideal S1x512x512 .bf16) (i j : Fin 512) :
    (k0_pay38 (F := Ideal) u v (ix2 i j) : EReal) = max ((u (ix3 0 i j) : EReal) + v (ix3 0 i j)) 0 := by
  unfold k0_pay38
  rw [shapeCast_self]
  show max ((shapeCast S512x512 u shapeCasts_S1x512x512_S512x512 (ix2 i j) : EReal) + shapeCast S512x512 v shapeCasts_S1x512x512_S512x512 (ix2 i j))
    (Ideal.ofBits .f32 0x00000000#32) = _
  rw [Ideal.ofBits_zero_f32]
  exact congrArg₂ (fun a b : EReal => max (a + b) 0) (flat_apply u i j) (flat_apply v i j)

theorem chk_here (r : Fin 4) (c : Dev nD) : chk c (tOf r 3) = c := by revert r c; decide
theorem chk_one (r : Fin 4) (c : Dev nD) : chk (frm r c) (tOf r 2) = c := by revert r c; decide
theorem chk_two (r : Fin 4) (c : Dev nD) : chk (frm r (frm r c)) (tOf r 1) = c := by revert r c; decide
theorem chk_three (r : Fin 4) (c : Dev nD) : chk (frm r (frm r (frm r c))) (tOf r 0) = c := by revert r c; decide
theorem frm_all (r : Fin 4) (c : Dev nD) : [frm r (frm r (frm r c)), frm r (frm r c), frm r c, c].Perm (List.finRange 4) := by revert r c; decide

/-- The four devices met along a ring are all of them. -/
theorem sum_ring (f : Dev nD → EReal) (r : Fin 4) (c : Dev nD) :
    f (frm r (frm r (frm r c))) + f (frm r (frm r c)) + f (frm r c) + f c = ∑ d : Fin 4, f d := by
  have h := ((frm_all r c).map f).sum_eq
  rw [← List.ofFn_eq_map, List.sum_ofFn] at h
  simpa [add_assoc] using h

/-- The lane of the result on device `c`: row chunk `c` of the whole product, cut off below zero. -/
theorem outLane_apply (r : Fin 4) (c : Dev nD) (i j : Fin 512) :
    (outLane mI r c (ix2 i j) : EReal) = max (∑ d : Fin 4, part mI d c (laneOf r) i j) 0 := by
  unfold outLane
  rw [relu_apply]
  show max ((k0_pay29 (k0_pay29 (prodAt mI r 0 _) (prodAt mI r 1 _)) (prodAt mI r 2 _) _ : EReal) + _) 0 = _
  rw [add_apply, add_apply]
  have h0 := prodAt_apply mI r 0 (frm r (frm r (frm r c))) i j
  have h1 := prodAt_apply mI r 1 (frm r (frm r c)) i j
  have h2 := prodAt_apply mI r 2 (frm r c) i j
  have h3 := prodAt_apply mI r 3 c i j
  rw [chk_three] at h0
  rw [chk_two] at h1
  rw [chk_one] at h2
  rw [chk_here] at h3
  refine congrArg (max · 0) ?_
  refine Eq.trans ?_ (sum_ring (fun d => part mI d c (laneOf r) i j) r c)
  exact congrArg₂ (· + ·) (congrArg₂ (· + ·) (congrArg₂ (· + ·) h0 h1) h2) h3

end Ideal

end Cert.KernelIdeal.Rings

end
-- ==== Proof.Result.lean ====
/-
# The kernel's result against the plain program's
-/
module

public import proofs.«01_k».proof.Proof.Value
public import proofs.«01_k».proof.Proof.Gen.ReferenceIdeal
public import Idealize.ShloMosaic.Lib.Layout
public import Idealize.ShloMosaic.Lib.StackMember

@[expose] public section

noncomputable section

namespace Cert.KernelIdeal.Rings

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.ValueIdx

section Ideal

variable (mI : (ℓ : Loc nD τ sig) → Buf (Elt Ideal) ℓ)

/-- The whole result: the product of the whole arrays, cut off below zero. -/
def whole (a b : FVec Ideal ⟨2, ![2048, 2048]⟩ .f32) : FVec Ideal ⟨2, ![2048, 2048]⟩ .bf16 := fun z =>
  max (∑ k : Fin 2048, (a (ix2 (z 0) k) : EReal) * b (ix2 k (z 1))) 0

/-- A sum over the axis is the sum over its four blocks. -/
theorem sum_big (f : Fin 2048 → EReal) : ∑ d : Fin 4, ∑ k : Fin 512, f (big d k) = ∑ k : Fin 2048, f k := by
  refine (Fintype.sum_prod_type' (fun (d : Fin 4) (k : Fin 512) => f (big d k))).symm.trans ?_
  refine Fintype.sum_equiv (finProdFinEquiv (m := 4) (n := 512)) _ _ fun p => congrArg f (Fin.ext ?_)
  show 512 * p.1.val + p.2.val = p.2.val + 512 * p.1.val
  omega

variable {mI}

/-- Each device's result is its row block of the whole one. -/
theorem outB_block (a b : FVec Ideal ⟨2, ![2048, 2048]⟩ .f32)
    (ha : ∀ c : Dev nD, mI ((c : Thread nD τ).loc main_arg0) = Layout.block ⟨2, ![2048, 512]⟩ ⟨2, ![2048, 2048]⟩ 1 4 c a)
    (hb : ∀ c : Dev nD, mI ((c : Thread nD τ).loc main_arg1) = Layout.block ⟨2, ![512, 2048]⟩ ⟨2, ![2048, 2048]⟩ 0 4 c b) (c : Dev nD) :
    outB mI c = Layout.block ⟨2, ![512, 2048]⟩ ⟨2, ![2048, 2048]⟩ 0 4 c (whole a b) := by
  have hx (d : Dev nD) (R : Fin 2048) (k : Fin 512) : x0 mI d (ix2 R k) = a (ix2 R (big d k)) := by
    refine (congrFun (ha d) (ix2 R k)).trans (congrArg a ?_)
    funext q
    match q with
    | ⟨0, _⟩ => rfl
    | ⟨1, _⟩ => exact Fin.ext (show d.val * 512 + k.val = 512 * d.val + k.val by omega)
  have hw (d : Dev nD) (k : Fin 512) (C : Fin 2048) : w0 mI d (ix2 k C) = b (ix2 (big d k) C) := by
    refine (congrFun (hb d) (ix2 k C)).trans (congrArg b ?_)
    funext q
    match q with
    | ⟨0, _⟩ => exact Fin.ext (show d.val * 512 + k.val = 512 * d.val + k.val by omega)
    | ⟨1, _⟩ => rfl
  have key (l : Fin 4) (i j : Fin 512) :
      (outB mI c ((lane l).emb (ix2 i j)) : EReal) = max (∑ k : Fin 2048, (a (ix2 (big c i) k) : EReal) * b (ix2 k (big l j))) 0 := by
    rw [outB_lane]
    refine (outLane_apply mI (laneOf l) c i j).trans (congrArg (max · 0) ?_)
    rw [show laneOf (laneOf l) = l by revert l; decide]
    refine Eq.trans ?_ (sum_big fun k => (a (ix2 (big c i) k) : EReal) * b (ix2 k (big l j)))
    exact Finset.sum_congr rfl fun d _ => Finset.sum_congr rfl fun k _ => congrArg₂ (fun a b : EReal => a * b) (hx d _ k) (hw d k _)
  funext z
  have hz1 : (z 1).val < 2048 := (z 1).isLt
  have hz0 : (z 0).val < 512 := (z 0).isLt
  have e : z = (lane ⟨(z 1).val / 512, by omega⟩).emb (ix2 (z 0) ⟨(z 1).val % 512, Nat.mod_lt _ (by decide)⟩) := by
    funext q
    match q with
    | ⟨0, _⟩ => exact Fin.ext (lane_emb_0 ⟨(z 1).val / 512, by omega⟩ (ix2 (z 0) ⟨(z 1).val % 512, Nat.mod_lt _ (by decide)⟩)).symm
    | ⟨1, _⟩ => exact Fin.ext ((lane_emb_1 ⟨(z 1).val / 512, by omega⟩ (ix2 (z 0) ⟨(z 1).val % 512, Nat.mod_lt _ (by decide)⟩)).trans (Nat.div_add_mod _ _)).symm
  refine (congrArg (outB mI c) e).trans ((key _ _ _).trans ?_)
  show _ = max (∑ k : Fin 2048, (a (ix2 _ k) : EReal) * b (ix2 k _)) 0
  refine congrArg (max · 0) (Finset.sum_congr rfl fun k _ => congrArg₂ (fun a b : EReal => a * b) (congrArg a ?_) (congrArg b ?_))
  · exact congrArg (fun q : Fin 2048 => (ix2 q k : (⟨2, ![2048, 2048]⟩ : Shape).Idx))
      (Fin.ext (show 512 * c.val + (z 0).val = c.val * 512 + (z 0).val by omega))
  · exact congrArg (fun q : Fin 2048 => (ix2 k q : (⟨2, ![2048, 2048]⟩ : Shape).Idx)) (Fin.ext (Nat.div_add_mod _ _))

/-- The plain program computes the whole result. -/
theorem reference_whole (a b : FVec Ideal ⟨2, ![2048, 2048]⟩ .f32) :
    truncf .bf16 (maximumf (Host.dotGeneral Cert.ReferenceIdeal.dot_S2048x2048_S2048x2048_S2048x2048_1_0_0_1_n_n none a b)
        (broadcastInDim Cert.ReferenceIdeal.S2048x2048 ![] Cert.ReferenceIdeal.Facts₀.bcast_S_S2048x2048 (constant Cert.ReferenceIdeal.S_ .f32 0x00000000#32)))
      Cert.ReferenceIdeal.Facts₀.bitsLt_bf16_f32 = whole a b := by
  funext z
  rw [eq_ix2 (n0 := 2048) (n1 := 2048) z]
  show max (Host.dotGeneral (F := Ideal) (DotDims.plain 2048 2048 2048) none a b (ix2 (z 0) (z 1)) : EReal) (Ideal.ofBits .f32 0x00000000#32) = _
  rw [Ideal.ofBits_zero_f32]
  exact congrArg (max · 0) (StackMember.dotGeneral_plain_apply none a b _ _)

end Ideal

end Cert.KernelIdeal.Rings

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Result
public import Idealize.ShloMosaic.Adequacy
public import Idealize.ShloMosaic.Init

@[expose] public section

noncomputable section

namespace Cert.Proof

open Idealize.ShloMosaic Idealize.SL.Sem Cert.KernelIdeal.Rings

/-- The kernel as printed and its reading with exact operations are one text, so one run serves both. -/
theorem frame_kernel : Cert.quiescent_Kernel (hKernel := Cert.Kernel.Gen.facts) := fun m g _ =>
  (θ_run (Cert.KernelIdeal.defs (F := Bits)) _ _).mono (fun _ h => ⟨fun c => ⟨(h.1 c).1, (h.1 c).2.1⟩, h.2⟩) (run_main (F := Bits) m g)

theorem frame_ideal : Cert.quiescent_KernelIdeal (hKernelIdeal := Cert.KernelIdeal.Gen.facts) := fun m g _ =>
  (θ_run (Cert.KernelIdeal.defs (F := Ideal)) _ _).mono (fun _ h => ⟨fun c => ⟨(h.1 c).1, (h.1 c).2.1⟩, h.2⟩) (run_main (F := Ideal) m g)

theorem frame_reference : Cert.quiescent_ReferenceIdeal (hReferenceIdeal := Cert.ReferenceIdeal.Gen.facts) := fun m g _ =>
  (θ_run (Cert.ReferenceIdeal.defs (F := Ideal)) _ _).mono
    (fun r h => ⟨fun c => (h c).2, sem_eq_zero_of_no_sems (by decide) r.2⟩) (Cert.ReferenceIdeal.Value.run m g)

theorem result_eq : Cert.algebraic_KernelIdeal_ReferenceIdeal (hKernelIdeal := Cert.KernelIdeal.Gen.facts) (hReferenceIdeal := Cert.ReferenceIdeal.Gen.facts) :=
  fun m g m' g' _ hm =>
    ⟨whole (m' (((0 : Dev Cert.ReferenceIdeal.nD).tc : Thread Cert.ReferenceIdeal.nD Cert.ReferenceIdeal.τ).loc Cert.ReferenceIdeal.main_arg0))
        (m' (((0 : Dev Cert.ReferenceIdeal.nD).tc : Thread Cert.ReferenceIdeal.nD Cert.ReferenceIdeal.τ).loc Cert.ReferenceIdeal.main_arg1)),
      (θ_run (Cert.KernelIdeal.defs (F := Ideal)) _ _).mono
        (fun _ h c => ⟨(h.1 c).2.2.trans (outB_block _ _ (fun d => (hm d).1) (fun d => (hm d).2) c), (h.1 c).1, (h.1 c).2.1⟩) (run_main (F := Ideal) m g),
      (θ_run (Cert.ReferenceIdeal.defs (F := Ideal)) _ _).mono
        (fun _ h => ⟨(h 0).1.trans (reference_whole _ _), (h 0).2⟩) (Cert.ReferenceIdeal.Value.run m' g')⟩

theorem claim : Cert.Claim := ⟨Cert.Kernel.Gen.facts, Cert.KernelIdeal.Gen.facts, Cert.ReferenceIdeal.Gen.facts,
  frame_kernel, frame_ideal, frame_reference, trivial, result_eq⟩

end Cert.Proof

end
